-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_below_infinity [hPre_gate_below_infinity : Cert.Pre_gate_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gate_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_below_infinity [hPre_gate_below_infinity : Cert.Pre_gate_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gate_below_infinity [hKernelIdeal : Cert.KernelIdeal.Facts] [hPre_gate_below_infinity : Cert.Pre_gate_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gate_below_infinity [hReferenceIdeal : Cert.ReferenceIdeal.Facts] [hPre_gate_below_infinity : Cert.Pre_gate_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gate_below_infinity [hKernelIdeal : Cert.KernelIdeal.Facts] [hReferenceIdeal : Cert.ReferenceIdeal.Facts] [hPre_gate_below_infinity : Cert.Pre_gate_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gate_below_infinity : Cert.Pre_gate_below_infinity.Facts),
    quiescent_Kernel (hKernel := hKernel)
    ∧ quiescent_KernelIdeal (hKernelIdeal := hKernelIdeal)
    ∧ quiescent_KernelIdeal_pre_gate_below_infinity (hKernelIdeal := hKernelIdeal) (hPre_gate_below_infinity := hPre_gate_below_infinity)
    ∧ quiescent_ReferenceIdeal (hReferenceIdeal := hReferenceIdeal)
    ∧ quiescent_ReferenceIdeal_pre_gate_below_infinity (hReferenceIdeal := hReferenceIdeal) (hPre_gate_below_infinity := hPre_gate_below_infinity)
    ∧ preserves_Kernel_KernelIdeal
    ∧ algebraic_KernelIdeal_ReferenceIdeal_pre_gate_below_infinity (hKernelIdeal := hKernelIdeal) (hReferenceIdeal := hReferenceIdeal) (hPre_gate_below_infinity := hPre_gate_below_infinity)
-- ==== Pre_gate_below_infinity.lean ====
abbrev S4x8x8192x64 : Shape := ⟨4, ![4, 8, 8192, 64]⟩
abbrev S64x64 : Shape := ⟨2, ![64, 64]⟩
abbrev S64 : Shape := ⟨1, ![64]⟩
abbrev S_ : Shape := ⟨0, ![]⟩
abbrev S1x64 : Shape := ⟨2, ![1, 64]⟩

class Facts : Prop where
  bcast_S_S64x64 : S_.BroadcastsInDim S64x64 (![] : Fin 0 → Fin S64x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)

variable [Facts]

def fn {F : FTy → Type} [FloatOps F] (main_arg0 : FVec F S4x8x8192x64 .f32) (main_arg1 : FVec F S64x64 .f32) (main_arg2 : FVec F S64 .f32) : IVec S64x64 1 :=
  let main_cst : FVec F S_ .f32 := constant S_ .f32 0x7F800000#32
  let main_v0 : FVec F S64x64 .f32 := broadcastInDim S64x64 ![] bcast_S_S64x64 main_cst
  let main_v1 : IVec S64x64 1 := cmpf .olt main_arg1 main_v0
  let main_v2 : FVec F S1x64 .f32 := broadcastInDim S1x64 ![1] bcast_S64_S1x64_1 main_arg2
  let main_cst_0 : FVec F S_ .f32 := constant S_ .f32 0x7F800000#32
  let main_v3 : FVec F S1x64 .f32 := broadcastInDim S1x64 ![] bcast_S_S1x64 main_cst_0
  let main_v4 : IVec S1x64 1 := cmpf .olt main_v2 main_v3
  let main_v5 : IVec S64x64 1 := broadcastInDim S64x64 ![0, 1] bcast_S1x64_S64x64_0_1 main_v4
  let main_v6 : IVec S64x64 1 := andi main_v1 main_v5
  main_v6
-- ==== Kernel.lean ====
abbrev S4x8x8192x64 : Shape := ⟨4, ![4, 8, 8192, 64]⟩
abbrev S64x64 : Shape := ⟨2, ![64, 64]⟩
abbrev S64 : Shape := ⟨1, ![64]⟩
abbrev S4x8x64x8192 : Shape := ⟨4, ![4, 8, 64, 8192]⟩
abbrev S1x64x1x64 : Shape := ⟨4, ![1, 64, 1, 64]⟩
abbrev S1x64x8x64 : Shape := ⟨4, ![1, 64, 8, 64]⟩
abbrev S64x512 : Shape := ⟨2, ![64, 512]⟩
abbrev S64x1 : Shape := ⟨2, ![64, 1]⟩
abbrev S1x64 : Shape := ⟨2, ![1, 64]⟩
abbrev S4x64 : Shape := ⟨2, ![4, 64]⟩
abbrev S1x8x64x8192 : Shape := ⟨4, ![1, 8, 64, 8192]⟩
abbrev S8x64 : Shape := ⟨2, ![8, 64]⟩
abbrev S8x64x8192 : Shape := ⟨3, ![8, 64, 8192]⟩
abbrev S512x8192 : Shape := ⟨2, ![512, 8192]⟩
abbrev S64x8192 : Shape := ⟨2, ![64, 8192]⟩
abbrev S4 : Shape := ⟨1, ![4]⟩
abbrev S4x1 : Shape := ⟨2, ![4, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x8x8192x64, .f32⟩
  | .hbm, ⟨1, _⟩ => ⟨S64x64, .f32⟩
  | .hbm, ⟨2, _⟩ => ⟨S64, .f32⟩
  | .hbm, ⟨3, _⟩ => ⟨S4x8x64x8192, .f32⟩
  | .hbm, ⟨4, _⟩ => ⟨S1x64x1x64, .f32⟩
  | .hbm, ⟨5, _⟩ => ⟨S1x64x8x64, .f32⟩
  | .hbm, ⟨6, _⟩ => ⟨S64x512, .f32⟩
  | .hbm, ⟨7, _⟩ => ⟨S64x1, .f32⟩
  | .hbm, ⟨8, _⟩ => ⟨S1x64, .f32⟩
  | .hbm, ⟨9, _⟩ => ⟨S4x64, .i32⟩
  | .local _ .vmem, ⟨0, _⟩ => ⟨S1x8x64x8192, .f32⟩
  | .local _ .vmem, ⟨1, _⟩ => ⟨S1x8x64x8192, .f32⟩
  | .local _ .vmem, ⟨2, _⟩ => ⟨S64x512, .f32⟩
  | .local _ .vmem, ⟨3, _⟩ => ⟨S64x1, .f32⟩
  | .local _ .vmem, ⟨4, _⟩ => ⟨S1x64, .f32⟩
  | .local _ .vmem, ⟨5, _⟩ => ⟨S4x64, .i32⟩
  | .local _ .vmem, ⟨6, _⟩ => ⟨S8x64, .f32⟩
  | _, _ => ⟨S4x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg0 : BitVec 32 := BitVec.ofNat 32 (i 0).val
  let c3_i32 : BitVec 32 := 3#32
  let v34 : BitVec 1 := Scalar.cmpi .eq arg0 c3_i32
  let arg1 : BitVec 32 := BitVec.ofNat 32 (i 1).val
  let c0_i32_17 : BitVec 32 := 0#32
  let v35 : BitVec 1 := Scalar.cmpi .eq arg1 c0_i32_17
  let v36 : BitVec 1 := Scalar.andi v34 v35
  let v37 : BitVec 32 := Scalar.extui v36
  let c0_i32_18 : BitVec 32 := 0#32
  let v38 : BitVec 1 := Scalar.cmpi .ne v37 c0_i32_18
  v38

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S4x8x8192x64 : Shape := ⟨4, ![4, 8, 8192, 64]⟩
abbrev S64x64 : Shape := ⟨2, ![64, 64]⟩
abbrev S64 : Shape := ⟨1, ![64]⟩
abbrev S1x1x1x64 : Shape := ⟨4, ![1, 1, 1, 64]⟩
abbrev S_ : Shape := ⟨0, ![]⟩
abbrev S4x8192x64 : Shape := ⟨3, ![4, 8192, 64]⟩
abbrev S4x64 : Shape := ⟨2, ![4, 64]⟩
abbrev S1x64 : Shape := ⟨2, ![1, 64]⟩
abbrev S4 : Shape := ⟨1, ![4]⟩
abbrev S4x1 : Shape := ⟨2, ![4, 1]⟩

abbrev nBuf : Space → Nat
  | .hbm => 65
  | .vmem => 0
  | .smem => 0
  | _ => 0

abbrev bufTy : (tb : Table) → Fin (tcTables nBuf tb) → BufTy
  | .hbm, ⟨0, _⟩ => ⟨S4x8x8192x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S4x8x8192x64, .f32⟩
  | .hbm, ⟨5, _⟩ => ⟨S1x1x1x64, .f32⟩
  | .hbm, ⟨6, _⟩ => ⟨S4x8x8192x64, .f32⟩
  | .hbm, ⟨7, _⟩ => ⟨S4x8x8192x64, .f32⟩
  | .hbm, ⟨8, _⟩ => ⟨S_, .f32⟩
  | .hbm, ⟨9, _⟩ => ⟨S4x8192x64, .f32⟩
  | .hbm, ⟨10, _⟩ => ⟨S_, .f32⟩
  | .hbm, ⟨11, _⟩ => ⟨S4x8192x64, .f32⟩
  | .hbm, ⟨12, _⟩ => ⟨S4x8192x64, .f32⟩
  | .hbm, ⟨13, _⟩ => ⟨S4x8192x64, .f32⟩
  | .hbm, ⟨14, _⟩ => ⟨S4x8192x64, .f32⟩
  | .hbm, ⟨15, _⟩ => ⟨S_, .f32⟩
  | .hbm, ⟨16, _⟩ => ⟨S4x8192x64, .f32⟩
  | .hbm, ⟨17, _⟩ => ⟨S4x8192x64, .f32⟩
  | .hbm, ⟨18, _⟩ => ⟨S_, .f32⟩
  | .hbm, ⟨19, _⟩ => ⟨S4x8192x64, .f32⟩
  | .hbm, ⟨20, _⟩ => ⟨S4x8192x64, .f32⟩
  | .hbm, ⟨21, _⟩ => ⟨S_, .f32⟩
  | .hbm, ⟨22, _⟩ => ⟨S4x8192x64, .f32⟩
  | .hbm, ⟨23, _⟩ => ⟨S4x8192x64, .i1⟩
  | .hbm, ⟨24, _⟩ => ⟨S_, .i32⟩
  | .hbm, ⟨25, _⟩ => ⟨S_, .i32⟩
  | .hbm, ⟨26, _⟩ => ⟨S4x8192x64, .i32⟩
  | .hbm, ⟨27, _⟩ => ⟨S4x8192x64, .i32⟩
  | .hbm, ⟨28, _⟩ => ⟨S4x8192x64, .i32⟩
  | .hbm, ⟨29, _⟩ => ⟨S4x8192x64, .f32⟩
  | .hbm, ⟨30, _⟩ => ⟨S_, .f32⟩
  | .hbm, ⟨31, _⟩ => ⟨S4x64, .f32⟩
  | .hbm, ⟨32, _⟩ => ⟨S_, .f32⟩
  | .hbm, ⟨33, _⟩ => ⟨S4x64, .f32⟩
  | .hbm, ⟨34, _⟩ => ⟨S4x64, .f32⟩
  | .hbm, ⟨35, _⟩ => ⟨S64x64, .f32⟩
  | .hbm, ⟨36, _⟩ => ⟨S4x64, .f32⟩
  | .hbm, ⟨37, _⟩ => ⟨S1x64, .f32⟩
  | .hbm, ⟨38, _⟩ => ⟨S4x64, .f32⟩
  | .hbm, ⟨39, _⟩ => ⟨S4x64, .f32⟩
  | .hbm, ⟨40, _⟩ => ⟨S_, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4x1, .f32⟩
  | .hbm, ⟨46, _⟩ => ⟨S4x64, .f32⟩
  | .hbm, ⟨47, _⟩ => ⟨S4x64, .f32⟩
  | .hbm, ⟨48, _⟩ => ⟨S4x64, .f32⟩
  | .hbm, ⟨49, _⟩ => ⟨S_, .f32⟩
  | .hbm, ⟨50, _⟩ => ⟨S4, .f32⟩
  | .hbm, ⟨51, _⟩ => ⟨S4x1, .f32⟩
  | .hbm, ⟨52, _⟩ => ⟨S4x64, .f32⟩
  | .hbm, ⟨53, _⟩ => ⟨S4x64, .f32⟩
  | .hbm, ⟨54, _⟩ => ⟨S4x64, .i32⟩
  | .hbm, ⟨55, _⟩ => ⟨S_, .f32⟩
  | .hbm, ⟨56, _⟩ => ⟨S_, .i32⟩
  | .hbm, ⟨57, _⟩ => ⟨S4, .f32⟩
  | .hbm, ⟨58, _⟩ => ⟨S4, .i32⟩
  | .hbm, ⟨59, _⟩ => ⟨S4x1, .i32⟩
  | .hbm, ⟨60, _⟩ => ⟨S1x64, .i32⟩
  | .hbm, ⟨61, _⟩ => ⟨S4x64, .i32⟩
  | .hbm, ⟨62, _⟩ => ⟨S4x64, .i32⟩
  | .hbm, ⟨63, _⟩ => ⟨S4x64, .i1⟩
  | .hbm, ⟨64, _⟩ => ⟨S4x64, .i32⟩
  | _, _ => ⟨S4x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_v0 : Ref sig .tc := ⟨.hbm, 54, rfl⟩
abbrev main_call1_cst : Ref sig .tc := ⟨.hbm, 55, rfl⟩
abbrev main_call1_c : Ref sig .tc := ⟨.hbm, 56, rfl⟩
abbrev main_call1_v1_0 : Ref sig .tc := ⟨.hbm, 57, rfl⟩
abbrev main_v37 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v38 : Ref sig .tc := ⟨.hbm, 64, rfl⟩

abbrev nD : Nat := 1
abbrev τ : Topo := Topo.v7x

variable {F : FTy → Type} [FloatOps F]
-- ==== Proof.FirstMax.lean ====
/-
  The first greatest entry of a family of 64 extended reals, and the two ways a program finds it: by folding a
  comparison of (value, index) pairs, and by the least index whose entry equals the maximum.
-/
module

public import Idealize.ShloMosaic.PureOps.Reduce
public import Idealize.ShloMosaic.PureOps.Ideal.Laws
public import Idealize.ShloMosaic.Lib.SortNet.Extract

@[expose] public section

noncomputable section

namespace Router

open Idealize.ShloMosaic

/-- `p` is the first index at which `z` takes its greatest value: nothing exceeds `z p`, and what stands before it is
    less. -/
def IsFirst (z : Fin 64 → EReal) (p : Fin 64) : Prop := ∀ q, z q ≤ z p ∧ (q < p → z q < z p)

/-- There is at most one first greatest index. -/
theorem IsFirst.unique {z : Fin 64 → EReal} {p q : Fin 64} (hp : IsFirst z p) (hq : IsFirst z q) : p = q := by
  rcases lt_trichotomy p q with h | h | h
  · exact absurd ((hq p).2 h) (not_lt.mpr (hp q).1)
  · exact h
  · exact absurd ((hp q).2 h) (not_lt.mpr (hq p).1)

/-- Two families that order their entries alike have the same first greatest index. -/
theorem isFirst_congr {z s : Fin 64 → EReal} (h : ∀ p q, s q ≤ s p ↔ z q ≤ z p) (p : Fin 64) :
    IsFirst s p ↔ IsFirst z p := by
  have hlt : ∀ p q, s q < s p ↔ z q < z p := fun p q => by rw [← not_le, ← not_le, h q p]
  unfold IsFirst
  simp only [h, hlt]

/-- The row that is 1 at the first greatest index and 0 elsewhere, as 32-bit words. -/
def firstRow (z : Fin 64 → EReal) (p : Fin 64) : BitVec 32 :=
  open Classical in if IsFirst z p then 1#32 else 0#32

/-- Families that order their entries alike have the same row. -/
theorem firstRow_congr {z s : Fin 64 → EReal} (h : ∀ p q, s q ≤ s p ↔ z q ≤ z p) (p : Fin 64) :
    firstRow s p = firstRow z p := by
  have e := isFirst_congr h p
  unfold firstRow
  by_cases hz : IsFirst z p
  · rw [if_pos hz, if_pos (e.mpr hz)]
  · rw [if_neg hz, if_neg (fun hs => hz (e.mp hs))]

/-- A word holding an index below 64, as a signed integer. -/
theorem toInt_ofNat (p : Fin 64) : (BitVec.ofNat 32 p.val).toInt = (p.val : ℤ) := by
  have := p.isLt
  rw [BitVec.toInt_eq_toNat_cond, BitVec.toNat_ofNat]
  rw [Nat.mod_eq_of_lt (by omega), if_pos (by omega)]

/-- Words of indices below 64 are equal only when the indices are. -/
theorem ofNat_inj {p q : Fin 64} : BitVec.ofNat 32 p.val = BitVec.ofNat 32 q.val ↔ p = q := by
  refine ⟨fun h => ?_, fun h => by rw [h]⟩
  have h' := congrArg BitVec.toInt h
  rw [toInt_ofNat, toInt_ofNat] at h'
  exact Fin.ext (by exact_mod_cast h')

/-- Comparing a word that holds the first greatest index against every index writes the row. -/
theorem extui_cmpi_eq_firstRow {z : Fin 64 → EReal} {i : BitVec 32} (h : ∃ q : Fin 64, i = BitVec.ofNat 32 q.val ∧ IsFirst z q)
    (p : Fin 64) : (IntOp.cmpi .eq i (BitVec.ofNat 32 p.val)).setWidth 32 = firstRow z p := by
  obtain ⟨q, rfl, hq⟩ := h
  unfold firstRow
  by_cases hp : IsFirst z p
  · obtain rfl := hq.unique hp
    rw [if_pos hp]
    simp [IntOp.cmpi]
  · have hne : ¬BitVec.ofNat 32 q.val = BitVec.ofNat 32 p.val := fun e => hp (ofNat_inj.mp e ▸ hq)
    rw [if_neg hp]
    have hb : (BitVec.ofNat 32 q.val == BitVec.ofNat 32 p.val) = false := beq_false_of_ne hne
    simp only [IntOp.cmpi, hb]
    rfl

/-! ## By a fold of pairs -/

/-- `b` is at least as good as `a`: its value is greater, or equal with an index no greater. -/
def Le (a b : EReal × BitVec 32) : Prop := a.1 < b.1 ∨ (a.1 = b.1 ∧ b.2.toInt ≤ a.2.toInt)

theorem Le.refl (a : EReal × BitVec 32) : Le a a := Or.inr ⟨rfl, le_rfl⟩

theorem Le.trans {a b c : EReal × BitVec 32} (h : Le a b) (h' : Le b c) : Le a c := by
  rcases h with h | ⟨h, hi⟩
  · rcases h' with h' | ⟨h', _⟩
    · exact Or.inl (h.trans h')
    · exact Or.inl (h' ▸ h)
  · rcases h' with h' | ⟨h', hi'⟩
    · exact Or.inl (h ▸ h')
    · exact Or.inr ⟨h.trans h', hi'.trans hi⟩

/-- A fold of a function that returns one of its two arguments, no worse than either, returns the start or a member of
    the list, no worse than any of them. -/
theorem foldl_best (f : EReal × BitVec 32 → EReal × BitVec 32 → EReal × BitVec 32)
    (hf : ∀ a b, (f a b = a ∨ f a b = b) ∧ Le a (f a b) ∧ Le b (f a b)) (l : List (EReal × BitVec 32)) :
    ∀ init, (l.foldl f init = init ∨ l.foldl f init ∈ l) ∧ Le init (l.foldl f init) ∧ ∀ e ∈ l, Le e (l.foldl f init) := by
  induction l with
  | nil => exact fun init => ⟨Or.inl rfl, Le.refl _, fun e he => absurd he List.not_mem_nil⟩
  | cons x l ih =>
    intro init
    obtain ⟨h1, h2, h3⟩ := ih (f init x)
    obtain ⟨g1, g2, g3⟩ := hf init x
    rw [List.foldl_cons]
    refine ⟨?_, g2.trans h2, fun e he => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.mp he with rfl | he
      · exact g3.trans h2
      · exact h3 e he

/-- The best of the pairs (entry, index), started from minus infinity and index 0, carries the first greatest index. -/
theorem best_isFirst (s : Fin 64 → EReal) (r : EReal × BitVec 32)
    (hmem : r = (⊥, 0#32) ∨ ∃ p : Fin 64, r = (s p, BitVec.ofNat 32 p.val))
    (hle : ∀ p : Fin 64, Le (s p, BitVec.ofNat 32 p.val) r) : ∃ q : Fin 64, r.2 = BitVec.ofNat 32 q.val ∧ IsFirst s q := by
  rcases hmem with rfl | ⟨q, rfl⟩
  · have hb : ∀ p, s p = ⊥ := fun p => by
      rcases hle p with h | h
      · exact absurd h not_lt_bot
      · exact h.1
    refine ⟨0, rfl, fun p => ⟨by rw [hb p, hb 0], fun h => absurd h (by simp)⟩⟩
  · refine ⟨q, rfl, fun p => ⟨?_, fun h => ?_⟩⟩
    · rcases hle p with h | h
      · exact h.le
      · exact h.1.le
    · rcases hle p with h' | h'
      · exact h'
      · have hi := h'.2
        rw [toInt_ofNat, toInt_ofNat] at hi
        exact absurd h (not_lt.mpr (by exact_mod_cast hi))

/-! ## By the least index of the maximum -/

/-- A fold of the signed minimum over a set of indices is at most every word met, and is one of them or the start. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  obtain ⟨h2, h3⟩ := ih
  rw [Finset.fold_insert has]
  have hm := SortNet.toInt_minsi (g a) (s.fold IntOp.minsi init g)
  refine ⟨fun i hi => ?_, ?_⟩
  · rcases Finset.mem_insert.mp hi with rfl | hi
    · rw [hm]; exact min_le_left _ _
    · exact le_trans (by rw [hm]; exact min_le_right _ _) (h2 i hi)
  · rcases min_choice (g a).toInt (s.fold IntOp.minsi init g).toInt with h | h
    · exact Or.inr ⟨a, Finset.mem_insert_self a s, BitVec.eq_of_toInt_eq (hm.trans h)⟩
    · rcases h3 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

/-- The maximum of the entries, as a fold of `max` from minus infinity, is attained. -/
theorem exists_eq_fold_max (z : Fin 64 → EReal) :
    (∀ p, z p ≤ Finset.univ.fold max ⊥ z) ∧ ∃ p, z p = Finset.univ.fold max ⊥ z := by
  have hle : ∀ p, z p ≤ Finset.univ.fold max ⊥ z := fun p => Finset.le_sup (f := z) (Finset.mem_univ p)
  refine ⟨hle, ?_⟩
  obtain ⟨p, -, hp⟩ := Finset.exists_max_image Finset.univ z ⟨0, Finset.mem_univ _⟩
  exact ⟨p, le_antisymm (hle p) (Finset.sup_le (f := z) fun q hq => hp q hq)⟩

/-- The least of the words that are the index where the entry is the maximum and 64 elsewhere is the first greatest
    index. -/
theorem least_isFirst (z : Fin 64 → EReal) (g : Fin 64 → BitVec 32)
    (hg : ∀ p, g p = if z p = Finset.univ.fold max ⊥ z then BitVec.ofNat 32 p.val else 64#32) :
    ∃ q : Fin 64, Finset.univ.fold IntOp.minsi 2147483647#32 g = BitVec.ofNat 32 q.val ∧ IsFirst z q := by
  obtain ⟨hle, p₀, hp₀⟩ := exists_eq_fold_max z
  obtain ⟨h1, h2⟩ := fold_minsi_spec g Finset.univ 2147483647#32
  have hsmall : (Finset.univ.fold IntOp.minsi 2147483647#32 g).toInt < 64 := by
    have h := h1 p₀ (Finset.mem_univ _)
    rw [hg p₀, if_pos hp₀, toInt_ofNat] at h
    have := p₀.isLt
    omega
  rcases h2 with h2 | ⟨q, -, h2⟩
  · rw [h2] at hsmall
    exact absurd hsmall (by decide)
  · by_cases hq : z q = Finset.univ.fold max ⊥ z
    · rw [hg q, if_pos hq] at h2
      refine ⟨q, h2, fun p => ⟨hq ▸ hle p, fun hpq => ?_⟩⟩
      refine lt_of_le_of_ne (hq ▸ hle p) fun e => ?_
      have h := h1 p (Finset.mem_univ _)
      rw [h2, hg p, if_pos (e.trans hq), toInt_ofNat, toInt_ofNat] at h
      exact absurd hpq (not_lt.mpr (by exact_mod_cast h))
    · rw [h2, hg q, if_neg hq] at hsmall
      exact absurd hsmall (by decide)

end Router

end
-- ==== Proof.Answer.lean ====
/-
  What the router computes, in plain sums over the extended reals and naming no program: the vote of each token for each
  expert, the count of the votes of a batch entry, the logits of the counts' means, and the row that is 1 at the first
  expert of greatest logit.
-/
module

public import proofs.«01_k».proof.Proof.FirstMax

@[expose] public section

noncomputable section

namespace Router

/-- The gate score of expert `p` at batch entry `b` and position `s`, summed over the eight rows. -/
def score (X : Fin 4 → Fin 8 → Fin 8192 → Fin 64 → EReal) (W : Fin 64 → Fin 64 → EReal) (B : Fin 64 → EReal)
    (b : Fin 4) (s : Fin 8192) (p : Fin 64) : EReal :=
  ∑ n, (∑ d, X b n s d * W p d + B p)

/-- One vote for a score above zero. -/
def vote (t : EReal) : EReal := if 0 < t then 1 else 0

/-- The votes expert `p` gets over the 8192 positions of batch entry `b`. -/
def tally (X : Fin 4 → Fin 8 → Fin 8192 → Fin 64 → EReal) (W : Fin 64 → Fin 64 → EReal) (B : Fin 64 → EReal)
    (b : Fin 4) (p : Fin 64) : EReal :=
  ∑ s, vote (score X W B b s p)

/-- The linear layer applied to a row of 64 counts, each divided by 8192. -/
def logit (n : Fin 64 → EReal) (W : Fin 64 → Fin 64 → EReal) (B : Fin 64 → EReal) (p : Fin 64) : EReal :=
  ∑ d, n d * ((1 / 8192 : ℝ) : EReal) * W p d + B p

/-- The result at batch entry `b` and expert `p`. -/
def answer (X : Fin 4 → Fin 8 → Fin 8192 → Fin 64 → EReal) (W : Fin 64 → Fin 64 → EReal) (B : Fin 64 → EReal)
    (b : Fin 4) (p : Fin 64) : BitVec 32 :=
  firstRow (logit (tally X W B b) W B) p

/-- A count of votes is a real number at least zero. -/
theorem exists_tally_eq (X : Fin 4 → Fin 8 → Fin 8192 → Fin 64 → EReal) (W : Fin 64 → Fin 64 → EReal) (B : Fin 64 → EReal)
    (b : Fin 4) (p : Fin 64) : ∃ r : ℝ, 0 ≤ r ∧ tally X W B b p = (r : EReal) := by
  unfold tally
  refine Finset.sum_induction _ (fun v => ∃ r : ℝ, 0 ≤ r ∧ v = (r : EReal)) ?_ ⟨0, le_rfl, rfl⟩ ?_
  · rintro _ _ ⟨r, hr, rfl⟩ ⟨q, hq, rfl⟩
    exact ⟨r + q, add_nonneg hr hq, (EReal.coe_add r q).symm⟩
  · intro s _
    unfold vote
    split_ifs
    · exact ⟨1, zero_le_one, rfl⟩
    · exact ⟨0, le_rfl, rfl⟩

/-- With no weight and no bias at plus infinity, no logit of a row of nonnegative reals is plus infinity. -/
theorem logit_lt_top (n : Fin 64 → EReal) (hn : ∀ d, ∃ r : ℝ, 0 ≤ r ∧ n d = (r : EReal)) (W : Fin 64 → Fin 64 → EReal)
    (B : Fin 64 → EReal) (hW : ∀ p d, W p d < ⊤) (hB : ∀ p, B p < ⊤) (p : Fin 64) : logit n W B p < ⊤ := by
  unfold logit
  refine EReal.add_lt_top (ne_of_lt ?_) (hB p).ne
  refine Finset.sum_induction _ (fun v => v < ⊤) (fun a b ha hb => EReal.add_lt_top ha.ne hb.ne) EReal.zero_lt_top ?_
  intro d _
  obtain ⟨r, hr, e⟩ := hn d
  rw [e, ← EReal.coe_mul]
  have hr' : 0 ≤ r * (1 / 8192) := by positivity
  generalize r * (1 / 8192) = q at hr'
  have hw := hW p d
  generalize W p d = w at hw
  induction w with
  | top => exact absurd hw (lt_irrefl _)
  | coe w => rw [← EReal.coe_mul]; exact EReal.coe_lt_top _
  | bot =>
    rcases hr'.eq_or_lt with h | h
    · rw [← h, EReal.coe_zero, zero_mul]; exact EReal.zero_lt_top
    · rw [EReal.coe_mul_bot_of_pos h]; exact bot_lt_top

end Router

end
-- ==== Proof.Softmax.lean ====
/-
  Two facts about the extended reals: the sigmoid of an eighth of a number exceeds one half exactly when the number is
  above zero, and the softmax of a family with no entry at plus infinity orders its entries as the family does.
-/
module

public import Idealize.ShloMosaic.PureOps.Ideal.Laws

@[expose] public section

noncomputable section

namespace Router

open Idealize.ShloMosaic

/-- The word of 8.0 is eight. -/
theorem ofBits_eight : Ideal.ofBits .f32 0x41000000#32 = ((8 : ℝ) : EReal) := by
  simp [Ideal.ofBits, Ideal.ieee, -EReal.coe_mul]; norm_num

/-- The word of 0.5 is one half. -/
theorem ofBits_half : Ideal.ofBits .f32 0x3F000000#32 = ((1 / 2 : ℝ) : EReal) := by
  simp [Ideal.ofBits, Ideal.ieee, -EReal.coe_mul]; norm_num

/-- The word of 8192.0 is 8192. -/
theorem ofBits_count : Ideal.ofBits .f32 0x46000000#32 = ((8192 : ℝ) : EReal) := by
  simp [Ideal.ofBits, Ideal.ieee, -EReal.coe_mul]; norm_num

/-- The word of 1/8192 is one 8192th. -/
theorem ofBits_countInv : Ideal.ofBits .f32 0x39000000#32 = ((1 / 8192 : ℝ) : EReal) := by
  simp [Ideal.ofBits, Ideal.ieee, -EReal.coe_mul]; norm_num

/-- The word of minus infinity is the least extended real. -/
theorem ofBits_negInf : Ideal.ofBits .f32 0xFF800000#32 = ⊥ := by
  simp [Ideal.ofBits, Ideal.ieee]

/-- The word of plus infinity is the greatest extended real. -/
theorem ofBits_inf : Ideal.ofBits .f32 0x7F800000#32 = ⊤ := by
  simp [Ideal.ofBits, Ideal.ieee]

/-- Division by a real that is not zero is multiplication by its inverse. -/
theorem div_real (x : EReal) {r : ℝ} (hr : r ≠ 0) : Ideal.div x (r : EReal) = x * ((r⁻¹ : ℝ) : EReal) := by
  unfold Ideal.div
  rw [if_neg (by exact_mod_cast hr), EReal.coe_inv]

/-- The sum of reals, each read as an extended real, is the real sum. -/
theorem coe_sum {ι : Type} (s : Finset ι) (f : ι → ℝ) : ∑ k ∈ s, (f k : EReal) = ((∑ k ∈ s, f k : ℝ) : EReal) := by
  classical
  refine Finset.induction_on s (by simp) fun a t ha ih => ?_
  rw [Finset.sum_insert ha, Finset.sum_insert ha, EReal.coe_add, ih]

/-- The sigmoid of `t / 8` exceeds one half exactly when `t` is above zero; at the infinities too. -/
theorem sigmoid_gt_half (t : EReal) :
    ((1 / 2 : ℝ) : EReal) < Ideal.div 1 (1 + Ideal.exp (-(Ideal.div t ((8 : ℝ) : EReal)))) ↔ 0 < t := by
  rw [div_real t (by norm_num : (8 : ℝ) ≠ 0)]
  induction t with
  | bot =>
    rw [EReal.bot_mul_coe_of_pos (by norm_num), EReal.neg_bot, Ideal.exp_top]
    have : (1 : EReal) + ⊤ = ⊤ := rfl
    rw [this]
    simp [Ideal.div]
  | top =>
    rw [EReal.top_mul_coe_of_pos (by norm_num), EReal.neg_top, Ideal.exp_bot]
    simp [Ideal.div]
    exact_mod_cast (by norm_num : (2⁻¹ : ℝ) < 1)
  | coe r =>
    rw [← EReal.coe_mul, ← EReal.coe_neg, Ideal.exp_coe]
    have hpos : 0 < Real.exp (-(r * 8⁻¹)) := Real.exp_pos _
    have e : (1 : EReal) + (Real.exp (-(r * 8⁻¹)) : EReal) = ((1 + Real.exp (-(r * 8⁻¹)) : ℝ) : EReal) := by
      rw [EReal.coe_add]; rfl
    rw [e, div_real _ (by positivity : (1 + Real.exp (-(r * 8⁻¹)) : ℝ) ≠ 0), one_mul, EReal.coe_lt_coe_iff]
    rw [show (0 : EReal) = ((0 : ℝ) : EReal) from rfl, EReal.coe_lt_coe_iff]
    rw [lt_inv_comm₀ (by norm_num) (by positivity)]
    constructor
    · intro h
      have : Real.exp (-(r * 8⁻¹)) < Real.exp 0 := by rw [Real.exp_zero]; norm_num at h; linarith
      have := Real.exp_lt_exp.mp this
      linarith
    · intro h
      have : Real.exp (-(r * 8⁻¹)) < Real.exp 0 := Real.exp_lt_exp.mpr (by linarith)
      rw [Real.exp_zero] at this
      norm_num
      linarith

/-- The exponential of a number at most the real `r`, less `r`, is a real, at least zero. -/
def expBelow (r : ℝ) : EReal → ℝ
  | ⊥ => 0
  | ⊤ => 0
  | (x : ℝ) => Real.exp (x - r)

theorem exp_sub_eq (r : ℝ) {x : EReal} (hx : x ≤ r) : Ideal.exp (x - r) = (expBelow r x : EReal) := by
  induction x with
  | bot => rfl
  | top => exact absurd hx (by simp)
  | coe x => rw [← EReal.coe_sub, Ideal.exp_coe]; rfl

theorem expBelow_nonneg (r : ℝ) (x : EReal) : 0 ≤ expBelow r x := by
  induction x with
  | bot => exact le_rfl
  | top => exact le_rfl
  | coe x => exact (Real.exp_pos _).le

theorem expBelow_le_iff (r : ℝ) {x y : EReal} (hx : x ≤ r) (hy : y ≤ r) : expBelow r x ≤ expBelow r y ↔ x ≤ y := by
  induction x with
  | top => exact absurd hx (by simp)
  | bot => exact ⟨fun _ => bot_le, fun _ => expBelow_nonneg r y⟩
  | coe x =>
    induction y with
    | top => exact absurd hy (by simp)
    | bot =>
      refine ⟨fun h => absurd h (not_le.mpr (Real.exp_pos _)), fun h => absurd h (by simp)⟩
    | coe y =>
      rw [EReal.coe_le_coe_iff]
      show Real.exp (x - r) ≤ Real.exp (y - r) ↔ x ≤ y
      rw [Real.exp_le_exp]
      constructor <;> intro h <;> linarith

/-- THE SOFTMAX KEEPS THE ORDER. With no entry at plus infinity, each exponential of an entry less the maximum, over their
    sum, is ordered as the entries are. When the maximum is minus infinity all entries are equal, and so are all shares. -/
theorem softmax_le_iff (z : Fin 64 → EReal) (hz : ∀ p, z p < ⊤) (M : EReal) (hle : ∀ p, z p ≤ M) (hM : ∃ p, z p = M)
    (p q : Fin 64) :
    Ideal.div (Ideal.exp (z q - M)) (∑ k, Ideal.exp (z k - M)) ≤ Ideal.div (Ideal.exp (z p - M)) (∑ k, Ideal.exp (z k - M))
      ↔ z q ≤ z p := by
  obtain ⟨p₀, hp₀⟩ := hM
  induction M with
  | top => exact absurd (hp₀ ▸ hz p₀) (lt_irrefl _)
  | bot =>
    have hb : ∀ p, z p = ⊥ := fun p => le_bot_iff.mp (hle p)
    simp only [hb, le_refl]
  | coe r =>
    have he : ∀ k, Ideal.exp (z k - r) = (expBelow r (z k) : EReal) := fun k => exp_sub_eq r (hle k)
    simp only [he]
    have hs : ∑ k, (expBelow r (z k) : EReal) = ((∑ k, expBelow r (z k) : ℝ) : EReal) :=
      coe_sum Finset.univ fun k => expBelow r (z k)
    have hpos : 0 < ∑ k, expBelow r (z k) := by
      refine Finset.sum_pos' (fun k _ => expBelow_nonneg r _) ⟨p₀, Finset.mem_univ _, ?_⟩
      rw [hp₀]; exact Real.exp_pos _
    rw [hs, div_real _ hpos.ne', div_real _ hpos.ne', ← EReal.coe_mul, ← EReal.coe_mul, EReal.coe_le_coe_iff,
      mul_le_mul_iff_left₀ (inv_pos.mpr hpos)]
    exact expBelow_le_iff r (hle q) (hle p)

end Router

end
-- ==== Proof.KernelBlock.lean ====
/-
  What the kernel's body computes from the blocks it loads, read at an index: the cleared accumulator, one step of the
  accumulation (a batch entry's counts added to its own row), and the finish (the row of the first greatest logit).
-/
module

public import proofs.«01_k».proof.Proof.Gen.KernelIdeal.Skeleton
public import proofs.«01_k».proof.Proof.Answer
public import proofs.«01_k».proof.Proof.Softmax
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Router

/-- The bit "above zero", widened and converted, is the vote. -/
theorem vote_eq (t : EReal) :
    (FloatOps.sitofp .f32 (BitVec.setWidth 32 (BitVec.ofBool (decide (0 < t)))) : Ideal .f32) = vote t := by
  unfold vote
  by_cases h : 0 < t
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- One contraction over the eight stacked copies of the weights, with eight times the bias, is the sum over the eight
    rows of the linear layer. -/
theorem stacked_eq (X : Fin 8 → Fin 64 → EReal) (W : Fin 64 → EReal) (B : EReal) :
    ∑ k : Fin 512, W ⟨k.val % 64, Nat.mod_lt _ (by omega)⟩
        * X ⟨k.val / 64, by have := k.isLt; omega⟩ ⟨k.val % 64, Nat.mod_lt _ (by omega)⟩
      + ((8 : ℝ) : EReal) * B = ∑ n, (∑ d, X n d * W d + B) := by
  rw [Fin.sum_univ_tiles 8 64 rfl, Finset.sum_add_distrib]
  congr 1
  · refine Finset.sum_congr rfl fun n _ => Finset.sum_congr rfl fun d _ => ?_
    have hn := n.isLt
    have hd := d.isLt
    have e1 : (n.val * 64 + d.val) % 64 = d.val := by omega
    have e2 : (n.val * 64 + d.val) / 64 = n.val := by omega
    simp only [e1, e2]
    exact mul_comm _ _
  · rw [Finset.sum_const, Finset.card_univ, Fintype.card_fin, EReal.nsmul_eq_mul]
    rfl

/-- The cleared accumulator is zero. -/
theorem clear_apply (r : Fin 8) (p : Fin 64) : k0_pay2 (F := Ideal) (ix2 r p) = 0 := by
  pointwise [k0_pay2]

/-- Whether a row number is the grid's first coordinate, decided on words. -/
theorem select_row {i r : ℕ} (hi : i < 4) (hr : r < 8) (a b : EReal) :
    Scalar.select (IntOp.cmpi .eq (BitVec.ofNat 32 r) (BitVec.ofNat 32 i)) a b = if r = i then a else b := by
  interval_cases i <;> interval_cases r <;> rfl

/-- ONE STEP of the accumulation: the counts of the block's batch entry are added to the row whose number is the grid's
    first coordinate, and the other rows stay. -/
theorem step_apply (i : grid0.Coords) (x : FVec Ideal S1x8x64x8192 .f32) (w : FVec Ideal S64x512 .f32)
    (b : FVec Ideal S64x1 .f32) (a : FVec Ideal S8x64 .f32) (X : Fin 4 → Fin 8 → Fin 8192 → Fin 64 → EReal)
    (W : Fin 64 → Fin 64 → EReal) (B : Fin 64 → EReal) (e : Fin 4) (he : (i 0).val = e.val)
    (hx : ∀ n d s, x (ix4 0 n d s) = X e n s d) (hw : ∀ p (k : Fin 512), w (ix2 p k) = W p ⟨k.val % 64, Nat.mod_lt _ (by omega)⟩)
    (hb : ∀ p, b (ix2 p 0) = B p) (r : Fin 8) (p : Fin 64) :
    k0_pay3 (F := Ideal) i x w b a (ix2 r p) = a (ix2 r p) + if r.val = e.val then tally X W B e p else 0 := by
  pointwise [k0_pay3]
  rw [he, select_row e.isLt r.isLt]
  refine congrArg (a (ix2 r p) + ·) (if_congr Iff.rfl ?_ rfl)
  unfold tally score
  refine Finset.sum_congr rfl fun s _ => ?_
  rw [vote_eq]
  refine congrArg vote ?_
  rw [ofBits_eight, hb p, ← stacked_eq (fun n d => X e n s d) (W p) (B p)]
  refine congrArg (· + ((8 : ℝ) : EReal) * B p) (Finset.sum_congr rfl fun k _ => ?_)
  rw [hw, hx]

/-- THE FINISH: from rows of counts, the result row is 1 at the first greatest logit and 0 elsewhere. -/
theorem finish_apply (a : FVec Ideal S4x64 .f32) (w : FVec Ideal S64x64 .f32) (b : FVec Ideal S1x64 .f32)
    (W : Fin 64 → Fin 64 → EReal) (B : Fin 64 → EReal) (hw : ∀ p d, w (ix2 p d) = W p d) (hb : ∀ p, b (ix2 0 p) = B p)
    (r : Fin 4) (p : Fin 64) :
    k0_pay1 (F := Ideal) a w b (ix2 r p) = firstRow (logit (fun d => a (ix2 r d)) W B) p := by
  pointwise [k0_pay1]
  have hz : ∀ q, ∑ d, a (ix2 r d) * Ideal.ofBits .f32 956301312#32 * w (ix2 q d) + b (ix2 0 q)
      = logit (fun d => a (ix2 r d)) W B q := fun q => by
    unfold logit
    rw [ofBits_countInv, hb]
    simp only [hw]
  simp only [hz]
  rw [ofBits_negInf]
  rw [← extui_cmpi_eq_firstRow (least_isFirst (logit (fun d => a (ix2 r d)) W B) _ fun _ => rfl) p]
  simp only [IntOp.cmpi]
  rw [BEq.comm]

end Cert.KernelIdeal.Block

end
-- ==== Proof.KernelCases.lean ====
/-
  What each kind of grid point leaves in the accumulator the kernel carries, and in the result block, as the body's own
  operations applied to the blocks it loads. The first point clears the accumulator and adds; the middle points add; the
  last point adds and then finishes from the accumulator's first four rows.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

/-- The offsets of an access that starts at the origin of a matrix. -/
theorem origin2 : (![0, 0] : Fin 2 → Nat) = fun _ => 0 := funext fun a => by fin_cases a <;> rfl

/-- The offsets of an access that starts at the origin of a rank-4 array. -/
theorem origin4 : (![0, 0, 0, 0] : Fin 4 → Nat) = fun _ => 0 := funext fun a => by fin_cases a <;> rfl

section
variable (c : Dev nD) (i : grid0.Coords)
  (a2 : Memref sig .tc .vmem S1x8x64x8192 .f32) (h2 : a2.IsWhole) (a3 : Memref sig .tc .vmem S64x512 .f32) (h3 : a3.IsWhole)
  (a4 : Memref sig .tc .vmem S64x1 .f32) (h4 : a4.IsWhole) (a5 : Memref sig .tc .vmem S1x64 .f32) (h5 : a5.IsWhole)
  (a6 : Memref sig .tc .vmem S4x64 .i32) (h6 : a6.IsWhole) (a7 : Memref sig .tc .vmem S8x64 .f32) (h7 : a7.IsWhole)
  (x0 : Vec F S1x8x64x8192 .f32) (x1 : Vec F S64x512 .f32) (x2 : Vec F S64x1 .f32) (x3 : Vec F S1x64 .f32)
  (xs : Vec F S8x64 .f32)

/-- A middle point leaves the accumulator one step further. -/
theorem acc_B (hc0 : ¬cond0_0 i) (hc1 : ¬cond0_1 i) :
    sout0_B_0 c i a2 h2 a3 h3 a4 h4 a5 h5 a6 h6 a7 h7 hc0 hc1 x0 x1 x2 x3 xs = k0_pay3 i x0 x1 x2 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero origin2]
  simp only [View.readAt_eq_ld, h2.read_unread, h3.read_unread, h4.read_unread, h7.read_unread,
    View.ld_unit_zero (S := S1x8x64x8192) origin4, View.ld_unit_zero (S := S64x512) origin2,
    View.ld_unit_zero (S := S64x1) origin2, View.ld_unit_zero (S := S1x64) origin2, View.ld_unit_zero (S := S8x64) origin2]

/-- The first point leaves the accumulator one step from zero. -/
theorem acc_A (hc0 : cond0_0 i) (hc1 : ¬cond0_1 i) :
    sout0_A_0 c i a2 h2 a3 h3 a4 h4 a5 h5 a6 h6 a7 h7 hc0 hc1 x0 x1 x2 x3 = k0_pay3 i x0 x1 x2 k0_pay2 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S8x64) origin2, View.readCov_unit_zero (S := S8x64) _ origin2]
  simp only [View.readAt_eq_ld, h2.read_unread, h3.read_unread, h4.read_unread, h7.read_unread,
    View.ld_unit_zero (S := S1x8x64x8192) origin4, View.ld_unit_zero (S := S64x512) origin2,
    View.ld_unit_zero (S := S64x1) origin2, View.ld_unit_zero (S := S1x64) origin2, View.ld_unit_zero (S := S8x64) origin2]

/-- The last point finishes, in the result block, from the accumulator one step further: from its first four rows, the
    first of the eight copies of the weights, and the bias. -/
theorem out_C (hc0 : ¬cond0_0 i) (hc1 : cond0_1 i) :
    out0_C_4 c i a2 h2 a3 h3 a4 h4 a5 h5 a6 h6 a7 h7 hc0 hc1 x0 x1 x2 x3 xs
      = k0_pay1 (fun j => k0_pay3 i x0 x1 x2 xs (ix2 ⟨(j 0).val, by have : (j 0).val < 4 := (j 0).isLt; omega⟩ (j 1)))
          (fun j => x1 (ix2 (j 0) ⟨(j 1).val, by have : (j 1).val < 64 := (j 1).isLt; omega⟩)) x3 := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero origin2]
  simp only [View.readAt_eq_ld, h2.read_unread, h3.read_unread, h4.read_unread, h5.read_unread, h7.read_unread,
    View.ld_unit_zero (S := S1x8x64x8192) origin4, View.ld_unit_zero (S := S64x512) origin2,
    View.ld_unit_zero (S := S64x1) origin2, View.ld_unit_zero (S := S1x64) origin2, View.ld_unit_zero (S := S8x64) origin2]
  have hcanon : a7.view.readCov (Val := Elt F) [⟨Rect.unit ![0, 0] ![8, 64] inb_S8x64_S8x64_0_0, k0_pay3 i x0 x1 x2 xs⟩]
        (Rect.unit ![0, 0] ![4, 64] inb_S8x64_S4x64_0_0).toLoadRect
      = fun j => k0_pay3 i x0 x1 x2 xs (ix2 ⟨(j 0).val, by have : (j 0).val < 4 := (j 0).isLt; omega⟩ (j 1)) := by
    rw [View.readCov_eq_canon', View.canon_unit_zero (S := S8x64) origin2]
    funext j
    refine congrArg _ (funext fun a => Fin.ext ?_)
    match a with
    | ⟨0, _⟩ => show 0 + 1 * (j 0).val = (j 0).val; omega
    | ⟨1, _⟩ => show 0 + 1 * (j 1).val = (j 1).val; omega
  have hfirst : View.ld x1 (Rect.unit ![0, 0] ![64, 64] inb_S64x512_S64x64_0_0)
      = fun j => x1 (ix2 (j 0) ⟨(j 1).val, by have : (j 1).val < 64 := (j 1).isLt; omega⟩) := by
    funext j
    refine congrArg x1 (funext fun a => Fin.ext ?_)
    match a with
    | ⟨0, _⟩ => show 0 + 1 * (j 0).val = (j 0).val; omega
    | ⟨1, _⟩ => show 0 + 1 * (j 1).val = (j 1).val; omega
  rw [hcanon, hfirst]
  rfl

end

end Cert.KernelIdeal.Cases

end
-- ==== Proof.KernelArgs.lean ====
/-
  What the kernel's windows hold, read at an index, in terms of the launch's arguments: the hidden states with their
  last two axes swapped, the weights repeated eight times along their columns, and the bias as a column and as a row.
-/
module

public import proofs.«01_k».proof.Proof.Gen.KernelIdeal.Frame
public import Idealize.ShloMosaic.Lib.Pipeline.Value
public import Idealize.ShloMosaic.Lib.Tactic
public import Idealize.ShloMosaic.Lib.Pointwise
public import Idealize.ShloMosaic.Lib.StableHlo.Run

@[expose] public section

set_option maxRecDepth 16384

noncomputable section

namespace Cert.KernelIdeal.Args

open Cert.KernelIdeal Cert.KernelIdeal.Gen Idealize.ShloMosaic Idealize.ShloMosaic.TcCoe Idealize.SL.Sem

variable (m : (ℓ : Loc nD τ sig) → Buf (Elt Ideal) ℓ) (c : Dev nD)

/-- The hidden states as the region finds them: the last two axes swapped. -/
theorem swapped : V m c main_v0
    = transpose S4x8x64x8192 [0, 1, 3, 2] (m (c.tc.loc main_arg0)) transposes_S4x8x8192x64_S4x8x64x8192_0_1_3_2 := by
  simp only [V, hostOps0]
  after_results_simp
  all_goals rfl

/-- The weights as the region finds them: repeated eight times along the columns. -/
theorem repeated : V m c main_v3
    = shapeCast S64x512 (broadcastInDim S1x64x8x64 ![0, 1, 2, 3] bcast_S1x64x1x64_S1x64x8x64_0_1_2_3
        (shapeCast S1x64x1x64 (m (c.tc.loc main_arg1)) shapeCasts_S64x64_S1x64x1x64)) shapeCasts_S1x64x8x64_S64x512 := by
  simp only [V, hostOps0]
  after_results_simp
  all_goals rfl

/-- The bias as a column. -/
theorem column : V m c main_v4 = shapeCast S64x1 (m (c.tc.loc main_arg2)) shapeCasts_S64_S64x1 := by
  simp only [V, hostOps0]
  after_results_simp
  all_goals rfl

/-- The bias as a row. -/
theorem row : V m c main_v5 = shapeCast S1x64 (m (c.tc.loc main_arg2)) shapeCasts_S64_S1x64 := by
  simp only [V, hostOps0]
  after_results_simp
  all_goals rfl

/-- The weights repeated, at an index: column `k` holds column `k mod 64`. -/
theorem repeated_apply (w : FVec Ideal S64x64 .f32) (p : Fin 64) (k : Fin 512) :
    shapeCast S64x512 (broadcastInDim S1x64x8x64 ![0, 1, 2, 3] bcast_S1x64x1x64_S1x64x8x64_0_1_2_3
        (shapeCast S1x64x1x64 w shapeCasts_S64x64_S1x64x1x64)) shapeCasts_S1x64x8x64_S64x512 (ix2 p k)
      = w (ix2 p (⟨k.val % 64, Nat.mod_lt _ (by omega)⟩ : Fin 64)) := by
  pointwise

/-- The hidden states' block at point `t` is batch entry `t`. -/
theorem hidden_apply (t : Fin cfg0.N) (e : Fin 4) (he : t.val = e.val) (n : Fin 8) (d : Fin 64) (s : Fin 8192) :
    (iblk m c 0 t : Vec Ideal S1x8x64x8192 .f32) (ix4 0 n d s) = m (c.tc.loc main_arg0) (ix4 e n s d) := by
  have hi : win0_0.index t 0 = t.val ∧ win0_0.index t 1 = 0 ∧ win0_0.index t 2 = 0 ∧ win0_0.index t 3 = 0 := by
    rcases fin_N0 t with rfl | rfl | rfl | rfl <;> decide
  have hx : ((cfg0.win 0).blk t).view.emb (ix4 0 n d s) = (ix4 e n d s : S4x8x64x8192.Idx) := by
    funext a
    apply Fin.ext
    match a with
    | ⟨0, _⟩ => show win0_0.index t 0 * 1 + 1 * 0 = e.val; rw [hi.1]; omega
    | ⟨1, _⟩ => show win0_0.index t 1 * 8 + 1 * n.val = n.val; rw [hi.2.1]; omega
    | ⟨2, _⟩ => show win0_0.index t 2 * 64 + 1 * d.val = d.val; rw [hi.2.2.1]; omega
    | ⟨3, _⟩ => show win0_0.index t 3 * 8192 + 1 * s.val = s.val; rw [hi.2.2.2]; omega
  unfold iblk
  rw [View.read_apply]
  show V m c main_v0 _ = _
  rw [swapped]
  refine (congrArg _ hx).trans ?_
  pointwise

/-- The weights' block holds, in row `p` and column `k`, the weight of row `p` and column `k mod 64`. -/
theorem weights_apply (t : Fin cfg0.N) (p : Fin 64) (k : Fin 512) :
    (iblk m c 1 t : Vec Ideal S64x512 .f32) (ix2 p k)
      = m (c.tc.loc main_arg1) (ix2 p (⟨k.val % 64, Nat.mod_lt _ (by omega)⟩ : Fin 64)) := by
  have hi : win0_1.index t 0 = 0 ∧ win0_1.index t 1 = 0 := by
    rcases fin_N0 t with rfl | rfl | rfl | rfl <;> decide
  have hx : ((cfg0.win 1).blk t).view.emb (ix2 p k) = (ix2 p k : S64x512.Idx) := by
    funext a
    apply Fin.ext
    match a with
    | ⟨0, _⟩ => show win0_1.index t 0 * 64 + 1 * p.val = p.val; rw [hi.1]; omega
    | ⟨1, _⟩ => show win0_1.index t 1 * 512 + 1 * k.val = k.val; rw [hi.2]; omega
  unfold iblk
  rw [View.read_apply]
  show V m c main_v3 _ = _
  rw [repeated]
  exact (congrArg _ hx).trans (repeated_apply _ p k)

/-- The bias block as a column. -/
theorem column_apply (t : Fin cfg0.N) (p : Fin 64) :
    (iblk m c 2 t : Vec Ideal S64x1 .f32) (ix2 p 0) = m (c.tc.loc main_arg2) (ix1 p) := by
  have hi : win0_2.index t 0 = 0 ∧ win0_2.index t 1 = 0 := by
    rcases fin_N0 t with rfl | rfl | rfl | rfl <;> decide
  have hx : ((cfg0.win 2).blk t).view.emb (ix2 p 0) = (ix2 p 0 : S64x1.Idx) := by
    funext a
    apply Fin.ext
    match a with
    | ⟨0, _⟩ => show win0_2.index t 0 * 64 + 1 * p.val = p.val; rw [hi.1]; omega
    | ⟨1, _⟩ => show win0_2.index t 1 * 1 + 1 * 0 = 0; rw [hi.2]
  unfold iblk
  rw [View.read_apply]
  show V m c main_v4 _ = _
  rw [column]
  refine (congrArg _ hx).trans ?_
  pointwise

/-- The bias block as a row. -/
theorem row_apply (t : Fin cfg0.N) (p : Fin 64) :
    (iblk m c 3 t : Vec Ideal S1x64 .f32) (ix2 0 p) = m (c.tc.loc main_arg2) (ix1 p) := by
  have hi : win0_3.index t 0 = 0 ∧ win0_3.index t 1 = 0 := by
    rcases fin_N0 t with rfl | rfl | rfl | rfl <;> decide
  have hx : ((cfg0.win 3).blk t).view.emb (ix2 0 p) = (ix2 0 p : S1x64.Idx) := by
    funext a
    apply Fin.ext
    match a with
    | ⟨0, _⟩ => show win0_3.index t 0 * 1 + 1 * 0 = 0; rw [hi.1]
    | ⟨1, _⟩ => show win0_3.index t 1 * 64 + 1 * p.val = p.val; rw [hi.2]; omega
  unfold iblk
  rw [View.read_apply]
  show V m c main_v5 _ = _
  rw [row]
  refine (congrArg _ hx).trans ?_
  pointwise

end Cert.KernelIdeal.Args

end
-- ==== Proof.KernelAnswer.lean ====
/-
  What the kernel's result array holds: the four grid points leave the votes of the four batch entries in the first four
  rows of the accumulator, and the last one writes the answer from them.
-/
module

public import proofs.«01_k».proof.Proof.KernelBlock
public import proofs.«01_k».proof.Proof.KernelCases
public import proofs.«01_k».proof.Proof.KernelArgs
public import proofs.«01_k».proof.Proof.Gen.KernelIdeal.Value

@[expose] public section

set_option maxRecDepth 16384

noncomputable section

namespace Cert.KernelIdeal.Answer

open Cert.KernelIdeal Cert.KernelIdeal.Gen Cert.KernelIdeal.Value Idealize.ShloMosaic Idealize.ShloMosaic.TcCoe Idealize.SL.Sem Router

variable (m : (ℓ : Loc nD τ sig) → Buf (Elt Ideal) ℓ) (c : Dev nD)

/-- The launch's hidden states, by batch entry, row, position and feature. -/
def hidden (e : Fin 4) (n : Fin 8) (s : Fin 8192) (d : Fin 64) : EReal := m (c.tc.loc main_arg0) (ix4 e n s d)

/-- The launch's gate weights. -/
def weight (p d : Fin 64) : EReal := m (c.tc.loc main_arg1) (ix2 p d)

/-- The launch's gate bias. -/
def bias (p : Fin 64) : EReal := m (c.tc.loc main_arg2) (ix1 p)

/-- The grid's first coordinate at point `t` is `t`. -/
theorem coord_eq (t : Fin cfg0.N) : (grid0.coords t 0).val = t.val := by
  rcases fin_N0 t with rfl | rfl | rfl | rfl <;> decide

/-- One step at point `t`, read at an index: batch entry `t`'s votes are added to row `t`. -/
theorem added_apply (t : Fin cfg0.N) (a : FVec Ideal S8x64 .f32) (e : Fin 4) (he : t.val = e.val) (r : Fin 8) (p : Fin 64) :
    k0_pay3 (F := Ideal) (grid0.coords t) (iblk m c 0 t) (iblk m c 1 t) (iblk m c 2 t) a (ix2 r p)
      = a (ix2 r p) + if r.val = e.val then tally (hidden m c) (weight m c) (bias m c) e p else 0 :=
  Block.step_apply (grid0.coords t) (iblk m c 0 t) (iblk m c 1 t) (iblk m c 2 t) a (hidden m c) (weight m c) (bias m c) e
    ((coord_eq t).trans he) (fun n d s => Args.hidden_apply m c t e he n d s) (fun q k => Args.weights_apply m c t q k)
    (fun q => Args.column_apply m c t q) r p

/-- Adding batch entry `t`'s votes to row `t` takes "the rows below `t` are filled" to "the rows up to `t` are filled". -/
theorem filled_step (T : Fin 4 → EReal) (r e : Fin 4) :
    ((if r.val < e.val then T r else 0) + if r.val = e.val then T e else 0) = if r.val < e.val + 1 then T r else 0 := by
  rcases lt_trichotomy r.val e.val with h | h | h
  · rw [if_pos h, if_neg h.ne, if_pos (by omega), add_zero]
  · rw [if_neg (by omega), if_pos h, if_pos (by omega), zero_add, Fin.ext h]
  · rw [if_neg (by omega), if_neg (by omega), if_neg (by omega), add_zero]

/-- Row `r < 4` of an 8-row array. -/
def low (r : Fin 4) : Fin 8 := ⟨r.val, by omega⟩

/-- The accumulator the first point leaves: row 0 filled, the other three rows zero. -/
theorem carried_first (h : 0 < cfg0.N) (r : Fin 4) (p : Fin 64) :
    (stAt0 m c 0 h junk0).2 (ix2 (low r) p)
      = if r.val < 0 + 1 then tally (hidden m c) (weight m c) (bias m c) r p else 0 := by
  rw [show stAt0 m c 0 h junk0 = _ from stAt0_A m c ⟨0, h⟩ junk0 (Nat.zero_mod _) (show ¬0 % 4 = 3 by decide)]
  dsimp only
  rw [Cases.acc_A, added_apply m c ⟨0, h⟩ _ 0 rfl, Block.clear_apply]
  exact (congrArg (· + _) (if_neg (Nat.not_lt_zero _)).symm).trans
    (filled_step (fun e => tally (hidden m c) (weight m c) (bias m c) e p) r 0)

/-- The accumulator a later point but the last leaves, over one whose rows below the point are filled. -/
theorem carried_next (n : ℕ) (h : n < cfg0.N) (h0 : 0 < n) (h3 : n < 3) (acc : Vec Ideal S4x64 .i32 × Vec Ideal S8x64 .f32)
    (hacc : ∀ (r : Fin 4) (p : Fin 64), acc.2 (ix2 (low r) p)
      = if r.val < n then tally (hidden m c) (weight m c) (bias m c) r p else 0) (r : Fin 4) (p : Fin 64) :
    (stAt0 m c n h acc).2 (ix2 (low r) p)
      = if r.val < n + 1 then tally (hidden m c) (weight m c) (bias m c) r p else 0 := by
  rw [show stAt0 m c n h acc = _ from stAt0_B m c ⟨n, h⟩ acc (by dsimp only; omega) (by dsimp only; omega)]
  dsimp only
  rw [Cases.acc_B, added_apply m c ⟨n, h⟩ _ ⟨n, by omega⟩ rfl, hacc]
  exact filled_step (fun e => tally (hidden m c) (weight m c) (bias m c) e p) r ⟨n, by omega⟩

/-- What the last point writes, over an accumulator whose first three rows are filled: the answer. -/
theorem written_last (h : 3 < cfg0.N) (acc : Vec Ideal S4x64 .i32 × Vec Ideal S8x64 .f32)
    (hacc : ∀ (r : Fin 4) (p : Fin 64), acc.2 (ix2 (low r) p)
      = if r.val < 3 then tally (hidden m c) (weight m c) (bias m c) r p else 0) (e : Fin 4) (p : Fin 64) :
    (stAt0 m c 3 h acc).1 (ix2 e p) = answer (hidden m c) (weight m c) (bias m c) e p := by
  rw [show stAt0 m c 3 h acc = _ from stAt0_C m c ⟨3, h⟩ acc (show ¬3 % 4 = 0 by decide) (show 3 % 4 = 3 by decide)]
  dsimp only
  rw [Cases.out_C]
  refine (Block.finish_apply _ _ _ (weight m c) (bias m c) (fun q d => ?_) (fun q => Args.row_apply m c ⟨3, h⟩ q) e p).trans ?_
  · refine (Args.weights_apply m c ⟨3, h⟩ q ⟨d.val, by omega⟩).trans ?_
    exact congrArg (fun k => m (c.tc.loc main_arg1) (ix2 q k)) (Fin.ext (Nat.mod_eq_of_lt d.isLt))
  · unfold answer
    refine congrArg (fun n => firstRow (logit n (weight m c) (bias m c)) p) (funext fun d => ?_)
    refine (added_apply m c ⟨3, h⟩ _ 3 rfl (low e) d).trans ?_
    rw [hacc]
    refine (filled_step (fun r => tally (hidden m c) (weight m c) (bias m c) r d) e 3).trans (if_pos ?_)
    exact e.isLt

/-- A fold over a run's four points, written out. -/
theorem four_points {α : Type} {N : ℕ} (a : (n : ℕ) → n < N → α) (g : (n : ℕ) → n < N → α → α) (h : 0 + 3 < N) :
    Pipeline.accAt a g 0 3 h = g 3 (by omega) (g 2 (by omega) (g 1 (by omega) (a 0 (by omega)))) := rfl

/-- THE KERNEL'S RESULT, read at an index: the answer at that batch entry and expert. -/
theorem result_apply (e : Fin 4) (p : Fin 64) :
    G4 m c (ix2 e p) = answer (hidden m c) (weight m c) (bias m c) e p := by
  have hN : cfg0.N = 4 := N_0
  have h0 := carried_first m c (by omega)
  have h1 := carried_next m c 1 (by omega) Nat.one_pos (by omega) _ h0
  have h2 := carried_next m c 2 (by omega) Nat.two_pos (by omega) _ h1
  have h3 := written_last m c (by omega) _ h2 e p
  rw [← h3, G4_last, four_points]

end Cert.KernelIdeal.Answer

end
-- ==== Proof.RefStages.lean ====
/-
  The reference as a chain of six pure stages, each the composition of the host operations of one line or two of
  reference.py: the summed gate scores, the votes, the gate, the logits, the softmax, the index of its greatest
  entry, and the one-hot row. Nothing is proved here: the stages are the vocabulary the run (`RefRun`) states its
  result in and the reading modules open.
-/
module

public import proofs.«01_k».proof.Proof.Gen.ReferenceIdeal

@[expose] public section

noncomputable section

namespace Cert.ReferenceIdeal.Stages

open Cert.ReferenceIdeal Cert.ReferenceIdeal.Gen Idealize.ShloMosaic

variable {F : FTy → Type} [FloatOps F]

/-- The first linear layer summed over the axis of length 8: the mean before its division. -/
def scores (x : FVec F S4x8x8192x64 .f32) (w : FVec F S64x64 .f32) (b : FVec F S64 .f32) : FVec F S4x8192x64 .f32 :=
  Host.reduceAdd
    (addf (Host.dotGeneral dot_S4x8x8192x64_S64x64_S4x8x8192x64_3_0_012_1_n_n none x
        (transpose S64x64 [1, 0] w transposes_S64x64_S64x64_1_0))
      (broadcastInDim S4x8x8192x64 ![0, 1, 2, 3] bcast_S1x1x1x64_S4x8x8192x64_0_1_2_3
        (broadcastInDim S1x1x1x64 ![3] bcast_S64_S1x1x1x64_3 b)))
    (constant S_ .f32 0x00000000#32) reducesTo_S4x8x8192x64_S4x8192x64_d1 h_S_

/-- The sigmoid of the mean, thresholded at one half: 1 above, 0 otherwise, as floats. -/
def votes (t : FVec F S4x8192x64 .f32) : FVec F S4x8192x64 .f32 :=
  sitofp .f32 (select
    (cmpf .ogt
      (Host.divf (broadcastInDim S4x8192x64 ![] bcast_S_S4x8192x64 (constant S_ .f32 0x3F800000#32))
        (addf (broadcastInDim S4x8192x64 ![] bcast_S_S4x8192x64 (constant S_ .f32 0x3F800000#32))
          (Host.exp (Host.negf (Host.divf t
            (broadcastInDim S4x8192x64 ![] bcast_S_S4x8192x64 (constant S_ .f32 0x41000000#32)))))))
      (broadcastInDim S4x8192x64 ![] bcast_S_S4x8192x64 (constant S_ .f32 0x3F000000#32)))
    (broadcastInDim S4x8192x64 ![] bcast_S_S4x8192x64 (constantI S_ 32 1#32))
    (broadcastInDim S4x8192x64 ![] bcast_S_S4x8192x64 (constantI S_ 32 0#32)))

/-- The mean of the votes over the 8192 positions. -/
def gate (v : FVec F S4x8192x64 .f32) : FVec F S4x64 .f32 :=
  Host.divf (Host.reduceAdd v (constant S_ .f32 0x00000000#32) reducesTo_S4x8192x64_S4x64_d1 h_S_)
    (broadcastInDim S4x64 ![] bcast_S_S4x64 (constant S_ .f32 0x46000000#32))

/-- The second linear layer, of the gate. -/
def logits (g : FVec F S4x64 .f32) (w : FVec F S64x64 .f32) (b : FVec F S64 .f32) : FVec F S4x64 .f32 :=
  addf (Host.dotGeneral dot_S4x64_S64x64_S4x64_1_0_0_1_n_n none g
      (transpose S64x64 [1, 0] w transposes_S64x64_S64x64_1_0))
    (broadcastInDim S4x64 ![0, 1] bcast_S1x64_S4x64_0_1 (broadcastInDim S1x64 ![1] bcast_S64_S1x64_1 b))

/-- The exponentials of the logits less their row's maximum. -/
def exps (z : FVec F S4x64 .f32) : FVec F S4x64 .f32 :=
  Host.exp (subf z (broadcastInDim S4x64 ![0, 1] bcast_S4x1_S4x64_0_1 (broadcastInDim S4x1 ![0] bcast_S4_S4x1_0
    (maximumf (broadcastInDim S4 ![] bcast_S_S4 (constant S_ .f32 0xFF800000#32))
      (Host.reduce FloatOps.maximumf z (constant S_ .f32 0xFF800000#32) reducesTo_S4x64_S4_d1 h_S_)))))

/-- Each exponential over its row's sum: with `exps`, the softmax. -/
def shares (e : FVec F S4x64 .f32) : FVec F S4x64 .f32 :=
  Host.divf e (broadcastInDim S4x64 ![0, 1] bcast_S4x1_S4x64_0_1 (broadcastInDim S4x1 ![0] bcast_S4_S4x1_0
    (Host.reduceAdd e (constant S_ .f32 0x00000000#32) reducesTo_S4x64_S4_d1 h_S_)))

/-- The index of each row's greatest entry. -/
def pick (s : FVec F S4x64 .f32) : IVec S4 32 :=
  fun j => (Host.argReduce reducer_argmax_f32_i32 s (iotaInDim S4x64 32 1) (constant S_ .f32 0xFF800000#32)
    (constantI S_ 32 0#32) reducesTo_S4x64_S4_d1 h_S_ j).2

/-- The row with 1 at the given index and 0 elsewhere. -/
def oneHot (p : IVec S4 32) : IVec S4x64 32 :=
  extui 32 (cmpi .eq (broadcastInDim S4x64 ![0, 1] bcast_S4x1_S4x64_0_1 (broadcastInDim S4x1 ![0] bcast_S4_S4x1_0 p))
    (broadcastInDim S4x64 ![0, 1] bcast_S1x64_S4x64_0_1 (iotaInDim S1x64 32 1))) natLt_1_32

/-- The reference's result as a function of its three arguments. -/
def result (x : FVec F S4x8x8192x64 .f32) (w : FVec F S64x64 .f32) (b : FVec F S64 .f32) : IVec S4x64 32 :=
  oneHot (pick (shares (exps (logits (gate (votes (scores x w b))) w b))))

end Cert.ReferenceIdeal.Stages

end
-- ==== Proof.RefRun.lean ====
/-
  The reference's run: its @main is a straight line of 62 host operations, so every execution terminates with each
  buffer at the operations' composed value. Here the result buffer is read back as `Stages.result` of the three
  arguments, the arguments are read back unchanged, and, the program having no semaphore at all, its frame follows.
-/
module

public import proofs.«01_k».proof.Proof.RefStages
public import Idealize.ShloMosaic.Lib.StableHlo.Run
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations, in order (a called function's operations stand in its call's place). -/
abbrev ops : List (HloOp τ sig (Elt F)) :=
  [ unary main_arg1 main_v0 ((transpose S64x64 [1, 0] · transposes_S64x64_S64x64_1_0) : (⟨S64x64, .f32⟩ : BufTy).Contents (Elt F) → (⟨S64x64, .f32⟩ : BufTy).Contents (Elt F)),
    binary main_arg0 main_v0 main_v1 ((fun l r => Host.dotGeneral dot_S4x8x8192x64_S64x64_S4x8x8192x64_3_0_012_1_n_n none l r) : (⟨S4x8x8192x64, .f32⟩ : BufTy).Contents (Elt F) → (⟨S64x64, .f32⟩ : BufTy).Contents (Elt F) → (⟨S4x8x8192x64, .f32⟩ : BufTy).Contents (Elt F)),
    unary main_arg2 main_v2 (broadcastInDim S1x1x1x64 ![3] bcast_S64_S1x1x1x64_3 : (⟨S64, .f32⟩ : BufTy).Contents (Elt F) → (⟨S1x1x1x64, .f32⟩ : BufTy).Contents (Elt F)),
    unary main_v2 main_v3 (broadcastInDim S4x8x8192x64 ![0, 1, 2, 3] bcast_S1x1x1x64_S4x8x8192x64_0_1_2_3 : (⟨S1x1x1x64, .f32⟩ : BufTy).Contents (Elt F) → (⟨S4x8x8192x64, .f32⟩ : BufTy).Contents (Elt F)),
    binary main_v1 main_v3 main_v4 (addf : (⟨S4x8x8192x64, .f32⟩ : BufTy).Contents (Elt F) → (⟨S4x8x8192x64, .f32⟩ : BufTy).Contents (Elt F) → (⟨S4x8x8192x64, .f32⟩ : BufTy).Contents (Elt F)),
    nullary main_cst (constant S_ .f32 0x00000000#32),
    binary main_v4 main_cst main_v5 ((fun x v => Host.reduceAdd x v reducesTo_S4x8x8192x64_S4x8192x64_d1 h_S_) : (⟨S4x8x8192x64, .f32⟩ : BufTy).Contents (Elt F) → (⟨S_, .f32⟩ : BufTy).Contents (Elt F) → (⟨S4x8192x64, .f32⟩ : BufTy).Contents (Elt F)),
    nullary main_cst_0 (constant S_ .f32 0x41000000#32),
    unary main_cst_0 main_v6 (broadcastInDim S4x8192x64 ![] bcast_S_S4x8192x64 : (⟨S_, .f32⟩ : BufTy).Contents (Elt F) → (⟨S4x8192x64, .f32⟩ : BufTy).Contents (Elt F)),
    binary main_v5 main_v6 main_v7 (Host.divf : (⟨S4x8192x64, .f32⟩ : BufTy).Contents (Elt F) → (⟨S4x8192x64, .f32⟩ : BufTy).Contents (Elt F) → (⟨S4x8192x64, .f32⟩ : BufTy).Contents (Elt F)),
    unary main_v7 main_v8 (Host.negf : (⟨S4x8192x64, .f32⟩ : BufTy).Contents (Elt F) → (⟨S4x8192x64, .f32⟩ : BufTy).Contents (Elt F)),
    unary main_v8 main_v9 (Host.exp : (⟨S4x8192x64, .f32⟩ : BufTy).Contents (Elt F) → (⟨S4x8192x64, .f32⟩ : BufTy).Contents (Elt F)),
    nullary main_cst_1 (constant S_ .f32 0x3F800000#32),
    unary main_cst_1 main_v10 (broadcastInDim S4x8192x64 ![] bcast_S_S4x8192x64 : (⟨S_, .f32⟩ : BufTy).Contents (Elt F) → (⟨S4x8192x64, .f32⟩ : BufTy).Contents (Elt F)),
    binary main_v10 main_v9 main_v11 (addf : (⟨S4x8192x64, .f32⟩ : BufTy).Contents (Elt F) → (⟨S4x8192x64, .f32⟩ : BufTy).Contents (Elt F) → (⟨S4x8192x64, .f32⟩ : BufTy).Contents (Elt F)),
    nullary main_cst_2 (constant S_ .f32 0x3F800000#32),
    unary main_cst_2 main_v12 (broadcastInDim S4x8192x64 ![] bcast_S_S4x8192x64 : (⟨S_, .f32⟩ : BufTy).Contents (Elt F) → (⟨S4x8192x64, .f32⟩ : BufTy).Contents (Elt F)),
    binary main_v12 main_v11 main_v13 (Host.divf : (⟨S4x8192x64, .f32⟩ : BufTy).Contents (Elt F) → (⟨S4x8192x64, .f32⟩ : BufTy).Contents (Elt F) → (⟨S4x8192x64, .f32⟩ : BufTy).Contents (Elt F)),
    nullary main_cst_3 (constant S_ .f32 0x3F000000#32),
    unary main_cst_3 main_v14 (broadcastInDim S4x8192x64 ![] bcast_S_S4x8192x64 : (⟨S_, .f32⟩ : BufTy).Contents (Elt F) → (⟨S4x8192x64, .f32⟩ : BufTy).Contents (Elt F)),
    binary main_v13 main_v14 main_v15 (cmpf .ogt : (⟨S4x8192x64, .f32⟩ : BufTy).Contents (Elt F) → (⟨S4x8192x64, .f32⟩ : BufTy).Contents (Elt F) → (⟨S4x8192x64, .i1⟩ : BufTy).Contents (Elt F)),
    nullary main_c (constantI S_ 32 1#32),
    nullary main_c_4 (constantI S_ 32 0#32),
    TRef.unary (TRef.of (T := ⟨S_, .i32⟩) main_c) (TRef.of (T := ⟨S4x8192x64, .i32⟩) main_call0_v0) (broadcastInDim S4x8192x64 ![] bcast_S_S4x8192x64),
    TRef.unary (TRef.of (T := ⟨S_, .i32⟩) main_c_4) (TRef.of (T := ⟨S4x8192x64, .i32⟩) main_call0_v1) (broadcastInDim S4x8192x64 ![] bcast_S_S4x8192x64),
    TRef.ternary (TRef.of (T := ⟨S4x8192x64, .i1⟩) main_v15) (TRef.of (T := ⟨S4x8192x64, .i32⟩) main_call0_v0) (TRef.of (T := ⟨S4x8192x64, .i32⟩) main_call0_v1) (TRef.of (T := ⟨S4x8192x64, .i32⟩) main_v16) select,
    unary main_v16 main_v17 (sitofp .f32 : (⟨S4x8192x64, .i32⟩ : BufTy).Contents (Elt F) → (⟨S4x8192x64, .f32⟩ : BufTy).Contents (Elt F)),
    nullary main_cst_5 (constant S_ .f32 0x00000000#32),
    binary main_v17 main_cst_5 main_v18 ((fun x v => Host.reduceAdd x v reducesTo_S4x8192x64_S4x64_d1 h_S_) : (⟨S4x8192x64, .f32⟩ : BufTy).Contents (Elt F) → (⟨S_, .f32⟩ : BufTy).Contents (Elt F) → (⟨S4x64, .f32⟩ : BufTy).Contents (Elt F)),
    nullary main_cst_6 (constant S_ .f32 0x46000000#32),
    unary main_cst_6 main_v19 (broadcastInDim S4x64 ![] bcast_S_S4x64 : (⟨S_, .f32⟩ : BufTy).Contents (Elt F) → (⟨S4x64, .f32⟩ : BufTy).Contents (Elt F)),
    binary main_v18 main_v19 main_v20 (Host.divf : (⟨S4x64, .f32⟩ : BufTy).Contents (Elt F) → (⟨S4x64, .f32⟩ : BufTy).Contents (Elt F) → (⟨S4x64, .f32⟩ : BufTy).Contents (Elt F)),
    unary main_arg1 main_v21 ((transpose S64x64 [1, 0] · transposes_S64x64_S64x64_1_0) : (⟨S64x64, .f32⟩ : BufTy).Contents (Elt F) → (⟨S64x64, .f32⟩ : BufTy).Contents (Elt F)),
    binary main_v20 main_v21 main_v22 ((fun l r => Host.dotGeneral dot_S4x64_S64x64_S4x64_1_0_0_1_n_n none l r) : (⟨S4x64, .f32⟩ : BufTy).Contents (Elt F) → (⟨S64x64, .f32⟩ : BufTy).Contents (Elt F) → (⟨S4x64, .f32⟩ : BufTy).Contents (Elt F)),
    unary main_arg2 main_v23 (broadcastInDim S1x64 ![1] bcast_S64_S1x64_1 : (⟨S64, .f32⟩ : BufTy).Contents (Elt F) → (⟨S1x64, .f32⟩ : BufTy).Contents (Elt F)),
    unary main_v23 main_v24 (broadcastInDim S4x64 ![0, 1] bcast_S1x64_S4x64_0_1 : (⟨S1x64, .f32⟩ : BufTy).Contents (Elt F) → (⟨S4x64, .f32⟩ : BufTy).Contents (Elt F)),
    binary main_v22 main_v24 main_v25 (addf : (⟨S4x64, .f32⟩ : BufTy).Contents (Elt F) → (⟨S4x64, .f32⟩ : BufTy).Contents (Elt F) → (⟨S4x64, .f32⟩ : BufTy).Contents (Elt F)),
    nullary main_cst_7 (constant S_ .f32 0xFF800000#32),
    binary main_v25 main_cst_7 main_v26 ((fun x v => Host.reduce FloatOps.maximumf x v reducesTo_S4x64_S4_d1 h_S_) : (⟨S4x64, .f32⟩ : BufTy).Contents (Elt F) → (⟨S_, .f32⟩ : BufTy).Contents (Elt F) → (⟨S4, .f32⟩ : BufTy).Contents (Elt F)),
    nullary main_cst_8 (constant S_ .f32 0xFF800000#32),
    unary main_cst_8 main_v27 (broadcastInDim S4 ![] bcast_S_S4 : (⟨S_, .f32⟩ : BufTy).Contents (Elt F) → (⟨S4, .f32⟩ : BufTy).Contents (Elt F)),
    binary main_v27 main_v26 main_v28 (maximumf : (⟨S4, .f32⟩ : BufTy).Contents (Elt F) → (⟨S4, .f32⟩ : BufTy).Contents (Elt F) → (⟨S4, .f32⟩ : BufTy).Contents (Elt F)),
    unary main_v28 main_v29 (broadcastInDim S4x1 ![0] bcast_S4_S4x1_0 : (⟨S4, .f32⟩ : BufTy).Contents (Elt F) → (⟨S4x1, .f32⟩ : BufTy).Contents (Elt F)),
    unary main_v29 main_v30 (broadcastInDim S4x64 ![0, 1] bcast_S4x1_S4x64_0_1 : (⟨S4x1, .f32⟩ : BufTy).Contents (Elt F) → (⟨S4x64, .f32⟩ : BufTy).Contents (Elt F)),
    binary main_v25 main_v30 main_v31 (subf : (⟨S4x64, .f32⟩ : BufTy).Contents (Elt F) → (⟨S4x64, .f32⟩ : BufTy).Contents (Elt F) → (⟨S4x64, .f32⟩ : BufTy).Contents (Elt F)),
    unary main_v31 main_v32 (Host.exp : (⟨S4x64, .f32⟩ : BufTy).Contents (Elt F) → (⟨S4x64, .f32⟩ : BufTy).Contents (Elt F)),
    nullary main_cst_9 (constant S_ .f32 0x00000000#32),
    binary main_v32 main_cst_9 main_v33 ((fun x v => Host.reduceAdd x v reducesTo_S4x64_S4_d1 h_S_) : (⟨S4x64, .f32⟩ : BufTy).Contents (Elt F) → (⟨S_, .f32⟩ : BufTy).Contents (Elt F) → (⟨S4, .f32⟩ : BufTy).Contents (Elt F)),
    unary main_v33 main_v34 (broadcastInDim S4x1 ![0] bcast_S4_S4x1_0 : (⟨S4, .f32⟩ : BufTy).Contents (Elt F) → (⟨S4x1, .f32⟩ : BufTy).Contents (Elt F)),
    unary main_v34 main_v35 (broadcastInDim S4x64 ![0, 1] bcast_S4x1_S4x64_0_1 : (⟨S4x1, .f32⟩ : BufTy).Contents (Elt F) → (⟨S4x64, .f32⟩ : BufTy).Contents (Elt F)),
    binary main_v32 main_v35 main_v36 (Host.divf : (⟨S4x64, .f32⟩ : BufTy).Contents (Elt F) → (⟨S4x64, .f32⟩ : BufTy).Contents (Elt F) → (⟨S4x64, .f32⟩ : BufTy).Contents (Elt F)),
    TRef.nullary (TRef.of (T := ⟨S4x64, .i32⟩) main_call1_v0) (iotaInDim S4x64 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x64, .f32⟩) main_v36) (TRef.of (T := ⟨S4x64, .i32⟩) main_call1_v0) (TRef.of (T := ⟨S_, .f32⟩) main_call1_cst) (TRef.of (T := ⟨S_, .i32⟩) main_call1_c) (TRef.of (T := ⟨S4, .f32⟩) main_call1_v1_0) (fun x y u v j => (Host.argReduce reducer_argmax_f32_i32 x y u v reducesTo_S4x64_S4_d1 h_S_ j).1),
    TRef.quaternary (TRef.of (T := ⟨S4x64, .f32⟩) main_v36) (TRef.of (T := ⟨S4x64, .i32⟩) main_call1_v0) (TRef.of (T := ⟨S_, .f32⟩) main_call1_cst) (TRef.of (T := ⟨S_, .i32⟩) main_call1_c) (TRef.of (T := ⟨S4, .i32⟩) main_v37) (fun x y u v j => (Host.argReduce reducer_argmax_f32_i32 x y u v reducesTo_S4x64_S4_d1 h_S_ j).2),
    TRef.unary (TRef.of (T := ⟨S4, .i32⟩) main_v37) (TRef.of (T := ⟨S4x1, .i32⟩) main_call2_v0) (broadcastInDim S4x1 ![0] bcast_S4_S4x1_0),
    TRef.nullary (TRef.of (T := ⟨S1x64, .i32⟩) main_call2_v1) (iotaInDim S1x64 32 1),
    TRef.unary (TRef.of (T := ⟨S4x1, .i32⟩) main_call2_v0) (TRef.of (T := ⟨S4x64, .i32⟩) main_call2_v2) (broadcastInDim S4x64 ![0, 1] bcast_S4x1_S4x64_0_1),
    TRef.unary (TRef.of (T := ⟨S1x64, .i32⟩) main_call2_v1) (TRef.of (T := ⟨S4x64, .i32⟩) main_call2_v3) (broadcastInDim S4x64 ![0, 1] bcast_S1x64_S4x64_0_1),
    TRef.binary (TRef.of (T := ⟨S4x64, .i32⟩) main_call2_v2) (TRef.of (T := ⟨S4x64, .i32⟩) main_call2_v3) (TRef.of (T := ⟨S4x64, .i1⟩) main_call2_v4) (cmpi .eq),
    TRef.unary (TRef.of (T := ⟨S4x64, .i1⟩) main_call2_v4) (TRef.of (T := ⟨S4x64, .i32⟩) main_v38) (extui 32 · natLt_1_32) ]

set_option maxRecDepth 8192 in
/-- @main is that list run in sequence. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- Every operation names buffers of the program only. -/
theorem ops_sub : (ops : List (HloOp τ sig (Elt F))).Forall fun op => op.bufs ⊆ tcRefs τ sig :=
  ⟨unary_bufs_sub .., binary_bufs_sub .., unary_bufs_sub .., unary_bufs_sub .., binary_bufs_sub ..,
    nullary_bufs_sub .., binary_bufs_sub .., nullary_bufs_sub .., unary_bufs_sub .., binary_bufs_sub ..,
    unary_bufs_sub .., unary_bufs_sub .., nullary_bufs_sub .., unary_bufs_sub .., binary_bufs_sub ..,
    nullary_bufs_sub .., unary_bufs_sub .., binary_bufs_sub .., nullary_bufs_sub .., unary_bufs_sub ..,
    binary_bufs_sub .., nullary_bufs_sub .., nullary_bufs_sub .., unary_bufs_sub .., unary_bufs_sub ..,
    ternary_bufs_sub .., unary_bufs_sub .., nullary_bufs_sub .., binary_bufs_sub .., nullary_bufs_sub ..,
    unary_bufs_sub .., binary_bufs_sub .., unary_bufs_sub .., binary_bufs_sub .., unary_bufs_sub .., unary_bufs_sub
    .., binary_bufs_sub .., nullary_bufs_sub .., binary_bufs_sub .., nullary_bufs_sub .., unary_bufs_sub ..,
    binary_bufs_sub .., unary_bufs_sub .., unary_bufs_sub .., binary_bufs_sub .., unary_bufs_sub ..,
    nullary_bufs_sub .., binary_bufs_sub .., unary_bufs_sub .., unary_bufs_sub .., binary_bufs_sub ..,
    nullary_bufs_sub .., nullary_bufs_sub .., nullary_bufs_sub .., quaternary_bufs_sub .., quaternary_bufs_sub ..,
    unary_bufs_sub .., nullary_bufs_sub .., unary_bufs_sub .., unary_bufs_sub .., binary_bufs_sub .., unary_bufs_sub
    ..⟩

set_option maxRecDepth 8192 in
set_option maxHeartbeats 2000000 in
/-- From any memory with zero counters, every execution of @main terminates with the result buffer at
    `Stages.result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Stages.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v38).trans (by
        simp only [ops, TRef.binary, TRef.nullary, TRef.ternary, TRef.quaternary, TRef.unary, TRef.toBuf, TRef.ofBuf, cast_eq]
        after_results_simp <;> rfl),
      (h c main_arg0).trans (by simp only [ops, TRef.binary, TRef.nullary, TRef.ternary, TRef.quaternary, TRef.unary, TRef.toBuf, TRef.ofBuf, cast_eq]; after_results_simp),
      (h c main_arg1).trans (by simp only [ops, TRef.binary, TRef.nullary, TRef.ternary, TRef.quaternary, TRef.unary, TRef.toBuf, TRef.ofBuf, cast_eq]; after_results_simp),
      (h c main_arg2).trans (by simp only [ops, TRef.binary, TRef.nullary, TRef.ternary, TRef.quaternary, TRef.unary, TRef.toBuf, TRef.ofBuf, cast_eq]; after_results_simp)⟩)
    (run_seq scopedRefs_eq scopedSems_eq defs main (fun _ => ops) main_eq (fun _ => ops_sub) m ρ)

/-- The program has no semaphore. -/
theorem no_sems : sig.nSem + sig.nDmaSem = 0 := by decide

/-- The reference's frame: it terminates with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems no_sems r.2⟩) (run m ρ)

end Cert.ReferenceIdeal.Value

end
-- ==== Proof.RefRead.lean ====
/-
  The reference's stages read at an index over the extended reals: sums, the vote, the logits, the softmax, and the
  index of its greatest entry, which is the first greatest index of the logits when no logit is plus infinity.
-/
module

public import proofs.«01_k».proof.Proof.RefStages
public import proofs.«01_k».proof.Proof.Answer
public import proofs.«01_k».proof.Proof.Softmax
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Router

/-- The summed scores at an index. -/
theorem scores_apply (x : FVec Ideal S4x8x8192x64 .f32) (w : FVec Ideal S64x64 .f32) (b : FVec Ideal S64 .f32)
    (e : Fin 4) (s : Fin 8192) (p : Fin 64) :
    Stages.scores x w b (ix3 e s p)
      = score (fun e n s d => x (ix4 e n s d)) (fun p d => w (ix2 p d)) (fun p => b (ix1 p)) e s p := by
  pointwise [Stages.scores]
  rfl

/-- The votes at an index: the vote of the score there. -/
theorem votes_apply (t : FVec Ideal S4x8192x64 .f32) (e : Fin 4) (s : Fin 8192) (p : Fin 64) :
    Stages.votes t (ix3 e s p) = vote (t (ix3 e s p)) := by
  pointwise [Stages.votes]
  rw [ofBits_eight, ofBits_half]
  unfold vote
  by_cases h : 0 < t (ix3 e s p)
  · rw [if_pos h, if_pos ((sigmoid_gt_half _).mpr h)]
    show (((1#32 : BitVec 32).toInt : ℝ) : EReal) = 1
    rw [show (1#32 : BitVec 32).toInt = 1 from by decide]
    norm_num
  · rw [if_neg h, if_neg (fun h' => h ((sigmoid_gt_half _).mp h'))]
    show (((0#32 : BitVec 32).toInt : ℝ) : EReal) = 0
    rw [show (0#32 : BitVec 32).toInt = 0 from by decide]
    norm_num

/-- The gate at an index: the number of votes over 8192. -/
theorem gate_apply (v : FVec Ideal S4x8192x64 .f32) (e : Fin 4) (p : Fin 64) :
    Stages.gate v (ix2 e p) = (∑ s, v (ix3 e s p)) * ((1 / 8192 : ℝ) : EReal) := by
  pointwise [Stages.gate]
  rw [ofBits_count, div_real _ (by norm_num : (8192 : ℝ) ≠ 0), one_div]

/-- The logits at an index. -/
theorem logits_apply (g : FVec Ideal S4x64 .f32) (w : FVec Ideal S64x64 .f32) (b : FVec Ideal S64 .f32) (e : Fin 4) (p : Fin 64) :
    Stages.logits g w b (ix2 e p) = ∑ d, g (ix2 e d) * w (ix2 p d) + b (ix1 p) := by
  pointwise [Stages.logits]

/-- The softmax at an index. -/
theorem shares_apply (z : FVec Ideal S4x64 .f32) (e : Fin 4) (p : Fin 64) :
    Stages.shares (Stages.exps z) (ix2 e p)
      = Ideal.div (Ideal.exp (z (ix2 e p) - Finset.univ.fold max ⊥ fun q => z (ix2 e q)))
          (∑ k, Ideal.exp (z (ix2 e k) - Finset.univ.fold max ⊥ fun q => z (ix2 e q))) := by
  pointwise [Stages.shares, Stages.exps]
  rw [ofBits_negInf]
  simp only [bot_le, sup_of_le_right]

/-- The one-hot row at an index. -/
theorem oneHot_apply (q : IVec S4 32) (e : Fin 4) (p : Fin 64) :
    Stages.oneHot q (ix2 e p) = (IntOp.cmpi .eq (q (ix1 e)) (BitVec.ofNat 32 p.val)).setWidth 32 := by
  pointwise [Stages.oneHot]

/-- The reducer returns one of its two pairs, no worse than either. -/
theorem reducer_spec (a b : EReal × BitVec 32) :
    (reducer_argmax_f32_i32 (F := Ideal) a b = a ∨ reducer_argmax_f32_i32 (F := Ideal) a b = b)
      ∧ Le a (reducer_argmax_f32_i32 (F := Ideal) a b) ∧ Le b (reducer_argmax_f32_i32 (F := Ideal) a b) := by
  obtain ⟨a1, a2⟩ := a
  obtain ⟨b1, b2⟩ := b
  have hr : reducer_argmax_f32_i32 (F := Ideal) (a1, a2) (b1, b2)
      = if b1 < a1 ∨ (a1 = b1 ∧ a2.toInt < b2.toInt) then (a1, a2) else (b1, b2) := by
    simp only [reducer_argmax_f32_i32, Ideal.cmpf_def, Ideal.cmp, IntOp.cmpi, BitVec.slt, ne_eq, not_true_eq_false]
    rcases lt_trichotomy a1 b1 with h | h | h
    · have h1 : ¬b1 < a1 := not_lt.mpr h.le
      have h2 : a1 ≠ b1 := h.ne
      simp [h1, h2, Scalar.select, IntOp.ori, IntOp.andi]
    · subst h
      by_cases hi : a2.toInt < b2.toInt <;> simp [hi, Scalar.select, IntOp.ori, IntOp.andi]
    · have h2 : a1 ≠ b1 := h.ne'
      simp [h, h2, Scalar.select, IntOp.ori, IntOp.andi]
  rw [hr]
  split_ifs with h
  · refine ⟨Or.inl rfl, Le.refl _, ?_⟩
    rcases h with h | h
    · exact Or.inl h
    · exact Or.inr ⟨h.1.symm, h.2.le⟩
  · refine ⟨Or.inr rfl, ?_, Le.refl _⟩
    rw [not_or, not_lt, not_and, not_lt] at h
    rcases h.1.lt_or_eq with h' | h'
    · exact Or.inl h'
    · exact Or.inr ⟨h', h.2 h'⟩

/-- Dropping the column of an index of the 4 by 64 array leaves its row. -/
theorem drop_ix2 (e : Fin 4) (p : Fin 64) : (reducesTo_S4x64_S4_d1).drop (ix2 e p : S4x64.Idx) = (ix1 e : S4.Idx) := by
  funext a
  match a with
  | ⟨0, _⟩ => rfl

/-- The pairs the reduction of row `e` folds over are the entries of that row with their indices. -/
theorem mem_fiber (s : FVec Ideal S4x64 .f32) (e : Fin 4) (r : EReal × BitVec 32) :
    r ∈ Host.argReduceFiber s (iotaInDim S4x64 32 1) reducesTo_S4x64_S4_d1 (ix1 e)
      ↔ ∃ p : Fin 64, r = (s (ix2 e p), BitVec.ofNat 32 p.val) := by
  unfold Host.argReduceFiber
  simp only [List.mem_map, List.mem_filter, List.mem_finRange, true_and, decide_eq_true_eq]
  constructor
  · rintro ⟨n, hn, rfl⟩
    generalize S4x64.rowMajor.symm n = i at hn
    obtain ⟨a, p, rfl⟩ : ∃ (a : Fin 4) (p : Fin 64), i = ix2 a p := ⟨i 0, i 1, eq_ix2 i⟩
    rw [drop_ix2] at hn
    obtain rfl : a = e := congrFun hn 0
    exact ⟨p, rfl⟩
  · rintro ⟨p, rfl⟩
    refine ⟨S4x64.rowMajor (ix2 e p), ?_, ?_⟩
    · rw [Equiv.symm_apply_apply]; exact drop_ix2 e p
    · rw [Equiv.symm_apply_apply]; rfl

/-- The index the reference picks in row `e` is that row's first greatest index. -/
theorem pick_apply (s : FVec Ideal S4x64 .f32) (e : Fin 4) : ∃ q : Fin 64,
    Stages.pick s (ix1 e) = BitVec.ofNat 32 q.val ∧ IsFirst (fun p => s (ix2 e p)) q := by
  unfold Stages.pick
  rw [Ideal.argReduce_eq_reduce2, Host.reduce2_eq_foldl_fiber]
  obtain ⟨h1, -, h3⟩ := foldl_best (reducer_argmax_f32_i32 (F := Ideal)) reducer_spec
    (Host.argReduceFiber s (iotaInDim S4x64 32 1) reducesTo_S4x64_S4_d1 (ix1 e))
    (constant (F := Ideal) S_ .f32 0xFF800000#32 (Shape.Idx.first h_S_), constantI S_ 32 0#32 (Shape.Idx.first h_S_))
  refine best_isFirst (fun p => s (ix2 e p)) _ ?_ fun p => h3 _ ((mem_fiber s e _).mpr ⟨p, rfl⟩)
  rcases h1 with h1 | h1
  · refine Or.inl (h1.trans (Prod.ext ?_ rfl))
    exact ofBits_negInf
  · exact Or.inr ((mem_fiber s e _).mp h1)

end Cert.ReferenceIdeal.Read

end
-- ==== Proof.RefAnswer.lean ====
/-
  The reference computes the router's answer: its stages, read one after the other, are the counts, the logits and the
  softmax, whose first greatest index is the logits' own when no weight and no bias is plus infinity.
-/
module

public import proofs.«01_k».proof.Proof.RefRead

@[expose] public section

set_option maxRecDepth 16384

noncomputable section

namespace Cert.ReferenceIdeal.Read

open Cert.ReferenceIdeal Cert.ReferenceIdeal.Gen Idealize.ShloMosaic Idealize.ShloMosaic.TcCoe Router

variable (x : FVec Ideal S4x8x8192x64 .f32) (w : FVec Ideal S64x64 .f32) (b : FVec Ideal S64 .f32)

/-- The reference's gate at an index is the count of votes over 8192. -/
theorem gate_eq (e : Fin 4) (p : Fin 64) :
    Stages.gate (Stages.votes (Stages.scores x w b)) (ix2 e p)
      = tally (fun e n s d => x (ix4 e n s d)) (fun p d => w (ix2 p d)) (fun p => b (ix1 p)) e p * ((1 / 8192 : ℝ) : EReal) := by
  rw [gate_apply]
  unfold tally
  simp only [votes_apply, scores_apply]

/-- The reference's logits at an index. -/
theorem logits_eq (e : Fin 4) (p : Fin 64) :
    Stages.logits (Stages.gate (Stages.votes (Stages.scores x w b))) w b (ix2 e p)
      = logit (tally (fun e n s d => x (ix4 e n s d)) (fun p d => w (ix2 p d)) (fun p => b (ix1 p)) e)
          (fun p d => w (ix2 p d)) (fun p => b (ix1 p)) p := by
  rw [logits_apply]
  unfold logit
  simp only [gate_eq]

/-- THE REFERENCE'S RESULT at an index, no weight and no bias being plus infinity. -/
theorem result_apply (hw : ∀ p d, w (ix2 p d) < ⊤) (hb : ∀ p, b (ix1 p) < ⊤) (e : Fin 4) (p : Fin 64) :
    Stages.result x w b (ix2 e p)
      = answer (fun e n s d => x (ix4 e n s d)) (fun p d => w (ix2 p d)) (fun p => b (ix1 p)) e p := by
  unfold Stages.result answer
  rw [oneHot_apply, extui_cmpi_eq_firstRow (pick_apply _ e) p]
  set n := tally (fun e n s d => x (ix4 e n s d)) (fun p d => w (ix2 p d)) (fun p => b (ix1 p)) e with hn
  have hz : ∀ q, logit n (fun p d => w (ix2 p d)) (fun p => b (ix1 p)) q < ⊤ :=
    logit_lt_top n (fun d => exists_tally_eq _ _ _ e d) _ _ hw hb
  obtain ⟨hle, hM⟩ := exists_eq_fold_max (logit n (fun p d => w (ix2 p d)) (fun p => b (ix1 p)))
  refine firstRow_congr (fun p q => ?_) p
  rw [shares_apply, shares_apply]
  simp only [logits_eq, ← hn]
  exact softmax_le_iff _ hz _ hle hM p q

end Cert.ReferenceIdeal.Read

end
-- ==== Proof.Pre.lean ====
/-
  The precondition read at an index: no weight and no bias of the gate is plus infinity.
-/
module

public import proofs.«01_k».proof.Pre_gate_below_infinity
public import proofs.«01_k».proof.Proof.Softmax
public import Idealize.ShloMosaic.Lib.Pointwise

@[expose] public section

set_option maxRecDepth 16384

noncomputable section

namespace Cert.Pre_gate_below_infinity

open Idealize.ShloMosaic Router

/-- The shape relations the precondition states hold. -/
theorem facts : Facts where
  bcast_S_S64x64 := by decide
  bcast_S64_S1x64_1 := by decide
  bcast_S_S1x64 := by decide
  bcast_S1x64_S64x64_0_1 := by decide

variable [Facts]

/-- Two comparisons' words conjoined are one only where both comparisons hold. -/
theorem both_hold {p q : Prop} [Decidable p] [Decidable q]
    (h : IntOp.andi (BitVec.ofBool (decide p)) (BitVec.ofBool (decide q)) = 1#1) : p ∧ q := by
  by_cases hp : p <;> by_cases hq : q
  · exact ⟨hp, hq⟩
  all_goals simp [hp, hq, IntOp.andi] at h

/-- Where the precondition holds, each weight and each bias lies below plus infinity. -/
theorem below (x : FVec Ideal S4x8x8192x64 .f32) (w : FVec Ideal S64x64 .f32) (b : FVec Ideal S64 .f32)
    (h : fn (F := Ideal) x w b = fun _ => 1#1) (p d : Fin 64) : w (ix2 p d) < ⊤ ∧ b (ix1 d) < ⊤ := by
  have e := congrFun h (ix2 p d)
  revert e
  pointwise [fn]
  rw [ofBits_inf]
  exact both_hold

end Cert.Pre_gate_below_infinity

end
-- ==== Proof.lean ====
/-
  The proof of `Cert.Claim`: the kernel, its idealization and the reference each run, keep their arguments and end with
  every semaphore at zero; the idealization rewrote nothing; and over the extended reals, where no weight and no bias of
  the gate is plus infinity, the kernel's result array equals the reference's element by element.

  Both results are `Router.answer` of the launch's arguments: the kernel's by `KernelAnswer`, the reference's by
  `RefAnswer`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.KernelAnswer
public import proofs.«01_k».proof.Proof.RefRun
public import proofs.«01_k».proof.Proof.RefAnswer
public import proofs.«01_k».proof.Proof.Pre

@[expose] public section

noncomputable section

namespace Cert.Proof

open Idealize.ShloMosaic Idealize.ShloMosaic.TcCoe Idealize.SL.Sem

/-- The kernel's result array is the reference's function of the same arguments, where each weight and each bias lies
    below plus infinity. -/
theorem results_agree (m : (ℓ : Loc Cert.KernelIdeal.nD Cert.KernelIdeal.τ Cert.KernelIdeal.sig) → Buf (Elt Ideal) ℓ)
    (c : Dev Cert.KernelIdeal.nD)
    (hw : ∀ p d : Fin 64, Cert.KernelIdeal.Answer.weight m c p d < ⊤) (hb : ∀ p : Fin 64, Cert.KernelIdeal.Answer.bias m c p < ⊤) :
    Cert.ReferenceIdeal.Stages.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Value.G4 m c := by
  funext i
  obtain ⟨e, p, rfl⟩ : ∃ (e : Fin 4) (p : Fin 64), i = ix2 e p := ⟨i 0, i 1, eq_ix2 i⟩
  exact (Cert.ReferenceIdeal.Read.result_apply _ _ _ hw hb e p).trans (Cert.KernelIdeal.Answer.result_apply m c e p).symm

/-- From memories agreeing on the arguments, under the precondition, both programs run to the same result. -/
theorem equal : Cert.algebraic_KernelIdeal_ReferenceIdeal_pre_gate_below_infinity
    (hPre_gate_below_infinity := Cert.Pre_gate_below_infinity.facts) := by
  intro m g m' g' hpre hargs
  refine ⟨fun c => Cert.KernelIdeal.Value.G4 m c, Cert.KernelIdeal.Value.run m g, ?_⟩
  refine (θ_run _ _ _).mono (fun r h c => ⟨?_, (h c).2⟩) (Cert.ReferenceIdeal.Value.run m' g')
  have hbelow := @Cert.Pre_gate_below_infinity.below Cert.Pre_gate_below_infinity.facts _ _ _ (hpre c)
  refine (h c).1.trans ?_
  rw [(hargs c).1, (hargs c).2.1, (hargs c).2.2]
  exact results_agree m c (fun p d => (hbelow p d).1) (fun p => (hbelow p p).2)

/-- Every claim of the certificate. -/
theorem claim : Cert.Claim :=
  ⟨Cert.Kernel.Gen.facts, Cert.KernelIdeal.Gen.facts, Cert.ReferenceIdeal.Gen.facts, Cert.Pre_gate_below_infinity.facts,
    fun m g _ => Cert.Kernel.Gen.frame m g,
    fun m g _ => Cert.KernelIdeal.Gen.frame m g,
    fun m g _ => Cert.KernelIdeal.Gen.frame m g,
    fun m g _ => Cert.ReferenceIdeal.Value.frame m g,
    fun m g _ => Cert.ReferenceIdeal.Value.frame m g,
    trivial,
    equal⟩

end Cert.Proof

end
